-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_beta_zero [hPre_beta_zero : Cert.Pre_beta_zero.Facts] (m : (ℓ : Loc Cert.KernelIdeal.nD Cert.KernelIdeal.τ Cert.KernelIdeal.sig) → Buf (Elt Ideal) ℓ) : Prop :=
  ∀ c : Dev Cert.KernelIdeal.nD,
    (Cert.Pre_beta_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_beta_zero [hPre_beta_zero : Cert.Pre_beta_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_beta_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_beta_zero [hKernelIdeal : Cert.KernelIdeal.Facts] [hPre_beta_zero : Cert.Pre_beta_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_beta_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_beta_zero [hReferenceIdeal : Cert.ReferenceIdeal.Facts] [hPre_beta_zero : Cert.Pre_beta_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_beta_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_beta_zero [hKernelIdeal : Cert.KernelIdeal.Facts] [hReferenceIdeal : Cert.ReferenceIdeal.Facts] [hPre_beta_zero : Cert.Pre_beta_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_beta_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_beta_zero : Cert.Pre_beta_zero.Facts),
    quiescent_Kernel (hKernel := hKernel)
    ∧ quiescent_KernelIdeal (hKernelIdeal := hKernelIdeal)
    ∧ quiescent_KernelIdeal_pre_beta_zero (hKernelIdeal := hKernelIdeal) (hPre_beta_zero := hPre_beta_zero)
    ∧ quiescent_ReferenceIdeal (hReferenceIdeal := hReferenceIdeal)
    ∧ quiescent_ReferenceIdeal_pre_beta_zero (hReferenceIdeal := hReferenceIdeal) (hPre_beta_zero := hPre_beta_zero)
    ∧ preserves_Kernel_KernelIdeal
    ∧ algebraic_KernelIdeal_ReferenceIdeal_pre_beta_zero (hKernelIdeal := hKernelIdeal) (hReferenceIdeal := hReferenceIdeal) (hPre_beta_zero := hPre_beta_zero)
-- ==== Pre_beta_zero.lean ====
abbrev S8x8192x512 : Shape := ⟨3, ![8, 8192, 512]⟩
abbrev S1x512 : Shape := ⟨2, ![1, 512]⟩
abbrev S_ : Shape := ⟨0, ![]⟩

class Facts : Prop where
  bcast_S_S1x512 : S_.BroadcastsInDim S1x512 (![] : Fin 0 → Fin S1x512.rank)

variable [Facts]

def fn {F : FTy → Type} [FloatOps F] (main_arg0 : FVec F S8x8192x512 .f32) (main_arg1 : FVec F S1x512 .f32) (main_arg2 : FVec F S1x512 .f32) : IVec S1x512 1 :=
  let main_cst : FVec F S_ .f32 := constant S_ .f32 0x00000000#32
  let main_v0 : FVec F S1x512 .f32 := broadcastInDim S1x512 ![] bcast_S_S1x512 main_cst
  let main_v1 : IVec S1x512 1 := cmpf .oeq main_arg2 main_v0
  main_v1
-- ==== Kernel.lean ====
abbrev S8x8192x512 : Shape := ⟨3, ![8, 8192, 512]⟩
abbrev S1x512 : Shape := ⟨2, ![1, 512]⟩
abbrev S_ : Shape := ⟨0, ![]⟩
abbrev S128x128 : Shape := ⟨2, ![128, 128]⟩
abbrev S32x256x64 : Shape := ⟨3, ![32, 256, 64]⟩
abbrev S1 : Shape := ⟨1, ![1]⟩
abbrev S1x4096x512 : Shape := ⟨3, ![1, 4096, 512]⟩
abbrev S1x2 : Shape := ⟨2, ![1, 2]⟩
abbrev S1x128x512 : Shape := ⟨3, ![1, 128, 512]⟩
abbrev S128x512 : Shape := ⟨2, ![128, 512]⟩
abbrev S128x256 : Shape := ⟨2, ![128, 256]⟩
abbrev S1x256x64 : Shape := ⟨3, ![1, 256, 64]⟩
abbrev S256x64 : Shape := ⟨2, ![256, 64]⟩
abbrev S128x64 : Shape := ⟨2, ![128, 64]⟩
abbrev S1x64 : Shape := ⟨2, ![1, 64]⟩
abbrev S1x32 : Shape := ⟨2, ![1, 32]⟩
abbrev S1x1 : Shape := ⟨2, ![1, 1]⟩
abbrev S1x31 : Shape := ⟨2, ![1, 31]⟩
abbrev S1x30 : Shape := ⟨2, ![1, 30]⟩
abbrev S1x4 : Shape := ⟨2, ![1, 4]⟩
abbrev S1x28 : Shape := ⟨2, ![1, 28]⟩
abbrev S1x8 : Shape := ⟨2, ![1, 8]⟩
abbrev S1x24 : Shape := ⟨2, ![1, 24]⟩
abbrev S1x16 : Shape := ⟨2, ![1, 16]⟩
abbrev S128x32 : Shape := ⟨2, ![128, 32]⟩
abbrev S128x1 : Shape := ⟨2, ![128, 1]⟩

abbrev nBuf : Space → Nat
  | .hbm => 35
  | .vmem => 9
  | .smem => 1
  | _ => 0

abbrev bufTy : (tb : Table) → Fin (tcTables nBuf tb) → BufTy
  | .hbm, ⟨0, _⟩ => ⟨S8x8192x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S128x128, .f32⟩
  | .hbm, ⟨5, _⟩ => ⟨S128x128, .i32⟩
  | .hbm, ⟨6, _⟩ => ⟨S_, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S_, .f32⟩
  | .hbm, ⟨12, _⟩ => ⟨S128x128, .f32⟩
  | .hbm, ⟨13, _⟩ => ⟨S128x128, .f32⟩
  | .hbm, ⟨14, _⟩ => ⟨S32x256x64, .i32⟩
  | .hbm, ⟨15, _⟩ => ⟨S32x256x64, .i32⟩
  | .hbm, ⟨16, _⟩ => ⟨S32x256x64, .i32⟩
  | .hbm, ⟨17, _⟩ => ⟨S32x256x64, .i1⟩
  | .hbm, ⟨18, _⟩ => ⟨S_, .i32⟩
  | .hbm, ⟨19, _⟩ => ⟨S32x256x64, .i32⟩
  | .hbm, ⟨20, _⟩ => ⟨S32x256x64, .i1⟩
  | .hbm, ⟨21, _⟩ => ⟨S32x256x64, .i1⟩
  | .hbm, ⟨22, _⟩ => ⟨S_, .i32⟩
  | .hbm, ⟨23, _⟩ => ⟨S32x256x64, .i32⟩
  | .hbm, ⟨24, _⟩ => ⟨S32x256x64, .i32⟩
  | .hbm, ⟨25, _⟩ => ⟨S32x256x64, .i1⟩
  | .hbm, ⟨26, _⟩ => ⟨S_, .i32⟩
  | .hbm, ⟨27, _⟩ => ⟨S32x256x64, .i32⟩
  | .hbm, ⟨28, _⟩ => ⟨S32x256x64, .i1⟩
  | .hbm, ⟨29, _⟩ => ⟨S32x256x64, .i1⟩
  | .hbm, ⟨30, _⟩ => ⟨S32x256x64, .i1⟩
  | .hbm, ⟨31, _⟩ => ⟨S32x256x64, .f32⟩
  | .hbm, ⟨32, _⟩ => ⟨S_, .i32⟩
  | .hbm, ⟨33, _⟩ => ⟨S1, .i32⟩
  | .hbm, ⟨34, _⟩ => ⟨S8x8192x512, .f32⟩
  | .local _ .vmem, ⟨0, _⟩ => ⟨S1x4096x512, .f32⟩
  | .local _ .vmem, ⟨1, _⟩ => ⟨S1x4096x512, .f32⟩
  | .local _ .vmem, ⟨2, _⟩ => ⟨S1x512, .f32⟩
  | .local _ .vmem, ⟨3, _⟩ => ⟨S1x512, .f32⟩
  | .local _ .vmem, ⟨4, _⟩ => ⟨S128x128, .f32⟩
  | .local _ .vmem, ⟨5, _⟩ => ⟨S32x256x64, .f32⟩
  | .local _ .vmem, ⟨6, _⟩ => ⟨S1x4096x512, .f32⟩
  | .local _ .vmem, ⟨7, _⟩ => ⟨S1x4096x512, .f32⟩
  | .local _ .vmem, ⟨8, _⟩ => ⟨S1x2, .f32⟩
  | .local _ .smem, ⟨0, _⟩ => ⟨S1, .i32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 2], ![false, false]⟩

def k0_mult1 (v802 : BitVec 32) : BitVec 32 :=
  let c0_i32_186 : BitVec 32 := 0#32
  let v803 : BitVec 32 := Scalar.addi c0_i32_186 v802
  v803

def k0_off1 (v802 : BitVec 32) (c0_i32_186 : BitVec 32) : Fin 3 → Nat :=
  let c0_187 : Index := 0#32
  let v803 : BitVec 32 := Scalar.addi c0_i32_186 v802
  let v804 : BitVec 32 := v803
  let v805 : Index := Scalar.indexCast v804
  let c0_188 : Index := 0#32
  ![0, v805.toNat, 0]
def k0_mult2 (v802 : BitVec 32) : BitVec 32 :=
  let c128_i32_191 : BitVec 32 := 128#32
  let v820 : BitVec 32 := Scalar.addi c128_i32_191 v802
  v820
def k0_mult3 (v802 : BitVec 32) : BitVec 32 :=
  let c256_i32 : BitVec 32 := 256#32
  let v837 : BitVec 32 := Scalar.addi c256_i32 v802
  v837
def k0_mult4 (v802 : BitVec 32) : BitVec 32 :=
  let c384_i32 : BitVec 32 := 384#32
  let v854 : BitVec 32 := Scalar.addi c384_i32 v802
  v854
def k0_mult5 (v802 : BitVec 32) : BitVec 32 :=
  let c512_i32 : BitVec 32 := 512#32
  let v871 : BitVec 32 := Scalar.addi c512_i32 v802
  v871
def k0_mult6 (v802 : BitVec 32) : BitVec 32 :=
  let c640_i32 : BitVec 32 := 640#32
  let v888 : BitVec 32 := Scalar.addi c640_i32 v802
  v888
def k0_mult7 (v802 : BitVec 32) : BitVec 32 :=
  let c768_i32 : BitVec 32 := 768#32
  let v905 : BitVec 32 := Scalar.addi c768_i32 v802
  v905
def k0_mult8 (v802 : BitVec 32) : BitVec 32 :=
  let c896_i32 : BitVec 32 := 896#32
  let v922 : BitVec 32 := Scalar.addi c896_i32 v802
  v922
def k0_mult9 (v802 : BitVec 32) : BitVec 32 :=
  let c1024_i32 : BitVec 32 := 1024#32
  let v939 : BitVec 32 := Scalar.addi c1024_i32 v802
  v939
def k0_mult10 (v802 : BitVec 32) : BitVec 32 :=
  let c1152_i32 : BitVec 32 := 1152#32
  let v956 : BitVec 32 := Scalar.addi c1152_i32 v802
  v956
def k0_mult11 (v802 : BitVec 32) : BitVec 32 :=
  let c1280_i32 : BitVec 32 := 1280#32
  let v973 : BitVec 32 := Scalar.addi c1280_i32 v802
  v973
def k0_mult12 (v802 : BitVec 32) : BitVec 32 :=
  let c1408_i32 : BitVec 32 := 1408#32
  let v990 : BitVec 32 := Scalar.addi c1408_i32 v802
  v990
def k0_mult13 (v802 : BitVec 32) : BitVec 32 :=
  let c1536_i32 : BitVec 32 := 1536#32
  let v1007 : BitVec 32 := Scalar.addi c1536_i32 v802
  v1007
def k0_mult14 (v802 : BitVec 32) : BitVec 32 :=
  let c1664_i32 : BitVec 32 := 1664#32
  let v1024 : BitVec 32 := Scalar.addi c1664_i32 v802
  v1024
def k0_mult15 (v802 : BitVec 32) : BitVec 32 :=
  let c1792_i32 : BitVec 32 := 1792#32
  let v1041 : BitVec 32 := Scalar.addi c1792_i32 v802
  v1041
def k0_mult16 (v802 : BitVec 32) : BitVec 32 :=
  let c1920_i32 : BitVec 32 := 1920#32
  let v1058 : BitVec 32 := Scalar.addi c1920_i32 v802
  v1058
def k0_mult17 (v802 : BitVec 32) : BitVec 32 :=
  let c2048_i32 : BitVec 32 := 2048#32
  let v1075 : BitVec 32 := Scalar.addi c2048_i32 v802
  v1075
def k0_mult18 (v802 : BitVec 32) : BitVec 32 :=
  let c2176_i32 : BitVec 32 := 2176#32
  let v1092 : BitVec 32 := Scalar.addi c2176_i32 v802
  v1092
def k0_mult19 (v802 : BitVec 32) : BitVec 32 :=
  let c2304_i32 : BitVec 32 := 2304#32
  let v1109 : BitVec 32 := Scalar.addi c2304_i32 v802
  v1109
def k0_mult20 (v802 : BitVec 32) : BitVec 32 :=
  let c2432_i32 : BitVec 32 := 2432#32
  let v1126 : BitVec 32 := Scalar.addi c2432_i32 v802
  v1126
def k0_mult21 (v802 : BitVec 32) : BitVec 32 :=
  let c2560_i32 : BitVec 32 := 2560#32
  let v1143 : BitVec 32 := Scalar.addi c2560_i32 v802
  v1143
def k0_mult22 (v802 : BitVec 32) : BitVec 32 :=
  let c2688_i32 : BitVec 32 := 2688#32
  let v1160 : BitVec 32 := Scalar.addi c2688_i32 v802
  v1160
def k0_mult23 (v802 : BitVec 32) : BitVec 32 :=
  let c2816_i32 : BitVec 32 := 2816#32
  let v1177 : BitVec 32 := Scalar.addi c2816_i32 v802
  v1177
def k0_mult24 (v802 : BitVec 32) : BitVec 32 :=
  let c2944_i32 : BitVec 32 := 2944#32
  let v1194 : BitVec 32 := Scalar.addi c2944_i32 v802
  v1194
def k0_mult25 (v802 : BitVec 32) : BitVec 32 :=
  let c3072_i32 : BitVec 32 := 3072#32
  let v1211 : BitVec 32 := Scalar.addi c3072_i32 v802
  v1211
def k0_mult26 (v802 : BitVec 32) : BitVec 32 :=
  let c3200_i32 : BitVec 32 := 3200#32
  let v1228 : BitVec 32 := Scalar.addi c3200_i32 v802
  v1228
def k0_mult27 (v802 : BitVec 32) : BitVec 32 :=
  let c3328_i32 : BitVec 32 := 3328#32
  let v1245 : BitVec 32 := Scalar.addi c3328_i32 v802
  v1245
def k0_mult28 (v802 : BitVec 32) : BitVec 32 :=
  let c3456_i32 : BitVec 32 := 3456#32
  let v1262 : BitVec 32 := Scalar.addi c3456_i32 v802
  v1262
def k0_mult29 (v802 : BitVec 32) : BitVec 32 :=
  let c3584_i32 : BitVec 32 := 3584#32
  let v1279 : BitVec 32 := Scalar.addi c3584_i32 v802
  v1279
def k0_mult30 (v802 : BitVec 32) : BitVec 32 :=
  let c3712_i32 : BitVec 32 := 3712#32
  let v1296 : BitVec 32 := Scalar.addi c3712_i32 v802
  v1296
def k0_mult31 (v802 : BitVec 32) : BitVec 32 :=
  let c3840_i32 : BitVec 32 := 3840#32
  let v1313 : BitVec 32 := Scalar.addi c3840_i32 v802
  v1313
def k0_mult32 (v802 : BitVec 32) : BitVec 32 :=
  let c3968_i32 : BitVec 32 := 3968#32
  let v1330 : BitVec 32 := Scalar.addi c3968_i32 v802
  v1330

def k0_chk1_0 (v802 : BitVec 32) : Prop :=
  (128 ∣ (k0_mult1 v802).toNat) ∧
  (∀ (r : Fin 32), ∀ a, (k0_off1 v802 (BitVec.ofNat 32 (128 * r.val))) a + S1x128x512.size a ≤ S1x4096x512.size a) ∧
  (128 ∣ (k0_mult2 v802).toNat) ∧
  (128 ∣ (k0_mult3 v802).toNat) ∧
  (128 ∣ (k0_mult4 v802).toNat) ∧
  (128 ∣ (k0_mult5 v802).toNat) ∧
  (128 ∣ (k0_mult6 v802).toNat) ∧
  (128 ∣ (k0_mult7 v802).toNat) ∧
  (128 ∣ (k0_mult8 v802).toNat) ∧
  (128 ∣ (k0_mult9 v802).toNat) ∧
  (128 ∣ (k0_mult10 v802).toNat) ∧
  (128 ∣ (k0_mult11 v802).toNat) ∧
  (128 ∣ (k0_mult12 v802).toNat) ∧
  (128 ∣ (k0_mult13 v802).toNat) ∧
  (128 ∣ (k0_mult14 v802).toNat) ∧
  (128 ∣ (k0_mult15 v802).toNat) ∧
  (128 ∣ (k0_mult16 v802).toNat) ∧
  (128 ∣ (k0_mult17 v802).toNat) ∧
  (128 ∣ (k0_mult18 v802).toNat) ∧
  (128 ∣ (k0_mult19 v802).toNat) ∧
  (128 ∣ (k0_mult20 v802).toNat) ∧
  (128 ∣ (k0_mult21 v802).toNat) ∧
  (128 ∣ (k0_mult22 v802).toNat) ∧
  (128 ∣ (k0_mult23 v802).toNat) ∧
  (128 ∣ (k0_mult24 v802).toNat) ∧
  (128 ∣ (k0_mult25 v802).toNat) ∧
  (128 ∣ (k0_mult26 v802).toNat) ∧
  (128 ∣ (k0_mult27 v802).toNat) ∧
  (128 ∣ (k0_mult28 v802).toNat) ∧
  (128 ∣ (k0_mult29 v802).toNat) ∧
  (128 ∣ (k0_mult30 v802).toNat) ∧
  (128 ∣ (k0_mult31 v802).toNat)
def k0_chk1_1 (v802 : BitVec 32) : Prop :=
  (128 ∣ (k0_mult32 v802).toNat)
def k0_chk1 (v802 : BitVec 32) : Prop :=
  k0_chk1_0 v802 ∧
  k0_chk1_1 v802
theorem k0_mult1_dvd : ∀ (v802 : BitVec 32) (k0_hw1 : k0_chk1 v802), 128 ∣ (k0_mult1 v802).toNat := fun v802 k0_hw1 => k0_hw1.1.1
theorem k0_off1_inb : ∀ (v802 : BitVec 32) (k0_hw1 : k0_chk1 v802), ∀ (r : Fin 32), ∀ a, (k0_off1 v802 (BitVec.ofNat 32 (128 * r.val))) a + S1x128x512.size a ≤ S1x4096x512.size a := fun v802 k0_hw1 r => k0_hw1.1.2.1 r
theorem k0_mult2_dvd : ∀ (v802 : BitVec 32) (k0_hw1 : k0_chk1 v802), 128 ∣ (k0_mult2 v802).toNat := fun v802 k0_hw1 => k0_hw1.1.2.2.1
theorem k0_mult3_dvd : ∀ (v802 : BitVec 32) (k0_hw1 : k0_chk1 v802), 128 ∣ (k0_mult3 v802).toNat := fun v802 k0_hw1 => k0_hw1.1.2.2.2.1
theorem k0_mult4_dvd : ∀ (v802 : BitVec 32) (k0_hw1 : k0_chk1 v802), 128 ∣ (k0_mult4 v802).toNat := fun v802 k0_hw1 => k0_hw1.1.2.2.2.2.1
theorem k0_mult5_dvd : ∀ (v802 : BitVec 32) (k0_hw1 : k0_chk1 v802), 128 ∣ (k0_mult5 v802).toNat := fun v802 k0_hw1 => k0_hw1.1.2.2.2.2.2.1
theorem k0_mult6_dvd : ∀ (v802 : BitVec 32) (k0_hw1 : k0_chk1 v802), 128 ∣ (k0_mult6 v802).toNat := fun v802 k0_hw1 => k0_hw1.1.2.2.2.2.2.2.1
theorem k0_mult7_dvd : ∀ (v802 : BitVec 32) (k0_hw1 : k0_chk1 v802), 128 ∣ (k0_mult7 v802).toNat := fun v802 k0_hw1 => k0_hw1.1.2.2.2.2.2.2.2.1
theorem k0_mult8_dvd : ∀ (v802 : BitVec 32) (k0_hw1 : k0_chk1 v802), 128 ∣ (k0_mult8 v802).toNat := fun v802 k0_hw1 => k0_hw1.1.2.2.2.2.2.2.2.2.1
theorem k0_mult9_dvd : ∀ (v802 : BitVec 32) (k0_hw1 : k0_chk1 v802), 128 ∣ (k0_mult9 v802).toNat := fun v802 k0_hw1 => k0_hw1.1.2.2.2.2.2.2.2.2.2.1
theorem k0_mult10_dvd : ∀ (v802 : BitVec 32) (k0_hw1 : k0_chk1 v802), 128 ∣ (k0_mult10 v802).toNat := fun v802 k0_hw1 => k0_hw1.1.2.2.2.2.2.2.2.2.2.2.1
theorem k0_mult11_dvd : ∀ (v802 : BitVec 32) (k0_hw1 : k0_chk1 v802), 128 ∣ (k0_mult11 v802).toNat := fun v802 k0_hw1 => k0_hw1.1.2.2.2.2.2.2.2.2.2.2.2.1
theorem k0_mult12_dvd : ∀ (v802 : BitVec 32) (k0_hw1 : k0_chk1 v802), 128 ∣ (k0_mult12 v802).toNat := fun v802 k0_hw1 => k0_hw1.1.2.2.2.2.2.2.2.2.2.2.2.2.1
theorem k0_mult13_dvd : ∀ (v802 : BitVec 32) (k0_hw1 : k0_chk1 v802), 128 ∣ (k0_mult13 v802).toNat := fun v802 k0_hw1 => k0_hw1.1.2.2.2.2.2.2.2.2.2.2.2.2.2.1
theorem k0_mult14_dvd : ∀ (v802 : BitVec 32) (k0_hw1 : k0_chk1 v802), 128 ∣ (k0_mult14 v802).toNat := fun v802 k0_hw1 => k0_hw1.1.2.2.2.2.2.2.2.2.2.2.2.2.2.2.1
theorem k0_mult15_dvd : ∀ (v802 : BitVec 32) (k0_hw1 : k0_chk1 v802), 128 ∣ (k0_mult15 v802).toNat := fun v802 k0_hw1 => k0_hw1.1.2.2.2.2.2.2.2.2.2.2.2.2.2.2.2.1
theorem k0_mult16_dvd : ∀ (v802 : BitVec 32) (k0_hw1 : k0_chk1 v802), 128 ∣ (k0_mult16 v802).toNat := fun v802 k0_hw1 => k0_hw1.1.2.2.2.2.2.2.2.2.2.2.2.2.2.2.2.2.1
theorem k0_mult17_dvd : ∀ (v802 : BitVec 32) (k0_hw1 : k0_chk1 v802), 128 ∣ (k0_mult17 v802).toNat := fun v802 k0_hw1 => k0_hw1.1.2.2.2.2.2.2.2.2.2.2.2.2.2.2.2.2.2.1
theorem k0_mult18_dvd : ∀ (v802 : BitVec 32) (k0_hw1 : k0_chk1 v802), 128 ∣ (k0_mult18 v802).toNat := fun v802 k0_hw1 => k0_hw1.1.2.2.2.2.2.2.2.2.2.2.2.2.2.2.2.2.2.2.1
theorem k0_mult19_dvd : ∀ (v802 : BitVec 32) (k0_hw1 : k0_chk1 v802), 128 ∣ (k0_mult19 v802).toNat := fun v802 k0_hw1 => k0_hw1.1.2.2.2.2.2.2.2.2.2.2.2.2.2.2.2.2.2.2.2.1
theorem k0_mult20_dvd : ∀ (v802 : BitVec 32) (k0_hw1 : k0_chk1 v802), 128 ∣ (k0_mult20 v802).toNat := fun v802 k0_hw1 => k0_hw1.1.2.2.2.2.2.2.2.2.2.2.2.2.2.2.2.2.2.2.2.2.1
theorem k0_mult21_dvd : ∀ (v802 : BitVec 32) (k0_hw1 : k0_chk1 v802), 128 ∣ (k0_mult21 v802).toNat := fun v802 k0_hw1 => k0_hw1.1.2.2.2.2.2.2.2.2.2.2.2.2.2.2.2.2.2.2.2.2.2.1
theorem k0_mult22_dvd : ∀ (v802 : BitVec 32) (k0_hw1 : k0_chk1 v802), 128 ∣ (k0_mult22 v802).toNat := fun v802 k0_hw1 => k0_hw1.1.2.2.2.2.2.2.2.2.2.2.2.2.2.2.2.2.2.2.2.2.2.2.1
theorem k0_mult23_dvd : ∀ (v802 : BitVec 32) (k0_hw1 : k0_chk1 v802), 128 ∣ (k0_mult23 v802).toNat := fun v802 k0_hw1 => k0_hw1.1.2.2.2.2.2.2.2.2.2.2.2.2.2.2.2.2.2.2.2.2.2.2.2.1
theorem k0_mult24_dvd : ∀ (v802 : BitVec 32) (k0_hw1 : k0_chk1 v802), 128 ∣ (k0_mult24 v802).toNat := fun v802 k0_hw1 => k0_hw1.1.2.2.2.2.2.2.2.2.2.2.2.2.2.2.2.2.2.2.2.2.2.2.2.2.1
theorem k0_mult25_dvd : ∀ (v802 : BitVec 32) (k0_hw1 : k0_chk1 v802), 128 ∣ (k0_mult25 v802).toNat := fun v802 k0_hw1 => k0_hw1.1.2.2.2.2.2.2.2.2.2.2.2.2.2.2.2.2.2.2.2.2.2.2.2.2.2.1
theorem k0_mult26_dvd : ∀ (v802 : BitVec 32) (k0_hw1 : k0_chk1 v802), 128 ∣ (k0_mult26 v802).toNat := fun v802 k0_hw1 => k0_hw1.1.2.2.2.2.2.2.2.2.2.2.2.2.2.2.2.2.2.2.2.2.2.2.2.2.2.2.1
theorem k0_mult27_dvd : ∀ (v802 : BitVec 32) (k0_hw1 : k0_chk1 v802), 128 ∣ (k0_mult27 v802).toNat := fun v802 k0_hw1 => k0_hw1.1.2.2.2.2.2.2.2.2.2.2.2.2.2.2.2.2.2.2.2.2.2.2.2.2.2.2.2.1
theorem k0_mult28_dvd : ∀ (v802 : BitVec 32) (k0_hw1 : k0_chk1 v802), 128 ∣ (k0_mult28 v802).toNat := fun v802 k0_hw1 => k0_hw1.1.2.2.2.2.2.2.2.2.2.2.2.2.2.2.2.2.2.2.2.2.2.2.2.2.2.2.2.2.1
theorem k0_mult29_dvd : ∀ (v802 : BitVec 32) (k0_hw1 : k0_chk1 v802), 128 ∣ (k0_mult29 v802).toNat := fun v802 k0_hw1 => k0_hw1.1.2.2.2.2.2.2.2.2.2.2.2.2.2.2.2.2.2.2.2.2.2.2.2.2.2.2.2.2.2.1
theorem k0_mult30_dvd : ∀ (v802 : BitVec 32) (k0_hw1 : k0_chk1 v802), 128 ∣ (k0_mult30 v802).toNat := fun v802 k0_hw1 => k0_hw1.1.2.2.2.2.2.2.2.2.2.2.2.2.2.2.2.2.2.2.2.2.2.2.2.2.2.2.2.2.2.2.1
theorem k0_mult31_dvd : ∀ (v802 : BitVec 32) (k0_hw1 : k0_chk1 v802), 128 ∣ (k0_mult31 v802).toNat := fun v802 k0_hw1 => k0_hw1.1.2.2.2.2.2.2.2.2.2.2.2.2.2.2.2.2.2.2.2.2.2.2.2.2.2.2.2.2.2.2.2
theorem k0_mult32_dvd : ∀ (v802 : BitVec 32) (k0_hw1 : k0_chk1 v802), 128 ∣ (k0_mult32 v802).toNat := fun v802 k0_hw1 => k0_hw1.2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4096x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x8192x512 : Shape := ⟨3, ![8, 8192, 512]⟩
abbrev S1x512 : Shape := ⟨2, ![1, 512]⟩
abbrev S_ : Shape := ⟨0, ![]⟩
abbrev S8x8192 : Shape := ⟨2, ![8, 8192]⟩
abbrev S8192 : Shape := ⟨1, ![8192]⟩
abbrev S1x8192 : Shape := ⟨2, ![1, 8192]⟩
abbrev S8x8192x1 : Shape := ⟨3, ![8, 8192, 1]⟩
abbrev S1x1x512 : Shape := ⟨3, ![1, 1, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S8x8192, .f32⟩
  | .hbm, ⟨5, _⟩ => ⟨S8x8192x512, .f32⟩
  | .hbm, ⟨6, _⟩ => ⟨S_, .f32⟩
  | .hbm, ⟨7, _⟩ => ⟨S8x8192, .f32⟩
  | .hbm, ⟨8, _⟩ => ⟨S_, .f32⟩
  | .hbm, ⟨9, _⟩ => ⟨S_, .f32⟩
  | .hbm, ⟨10, _⟩ => ⟨S8x8192, .f32⟩
  | .hbm, ⟨11, _⟩ => ⟨S_, .f32⟩
  | .hbm, ⟨12, _⟩ => ⟨S_, .f32⟩
  | .hbm, ⟨13, _⟩ => ⟨S8x8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S1x8192, .f32⟩
  | .hbm, ⟨22, _⟩ => ⟨S8x8192, .f32⟩
  | .hbm, ⟨23, _⟩ => ⟨S8x8192, .f32⟩
  | .hbm, ⟨24, _⟩ => ⟨S1x8192, .f32⟩
  | .hbm, ⟨25, _⟩ => ⟨S8x8192, .f32⟩
  | .hbm, ⟨26, _⟩ => ⟨S8x8192, .f32⟩
  | .hbm, ⟨27, _⟩ => ⟨S8x8192, .f32⟩
  | .hbm, ⟨28, _⟩ => ⟨S8x8192, .f32⟩
  | .hbm, ⟨29, _⟩ => ⟨S8x8192x1, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S8x8192, .f32⟩
  | .hbm, ⟨34, _⟩ => ⟨S8x8192x1, .f32⟩
  | .hbm, ⟨35, _⟩ => ⟨S8x8192x512, .f32⟩
  | .hbm, ⟨36, _⟩ => ⟨S8x8192x512, .f32⟩
  | .hbm, ⟨37, _⟩ => ⟨S1x1x512, .f32⟩
  | .hbm, ⟨38, _⟩ => ⟨S8x8192x512, .f32⟩
  | .hbm, ⟨39, _⟩ => ⟨S8x8192x512, .f32⟩
  | .hbm, ⟨40, _⟩ => ⟨S8x8192x512, .f32⟩
  | .hbm, ⟨41, _⟩ => ⟨S8x8192x512, .f32⟩
  | .hbm, ⟨42, _⟩ => ⟨S1x1x512, .f32⟩
  | .hbm, ⟨43, _⟩ => ⟨S8x8192x512, .f32⟩
  | .hbm, ⟨44, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_call1_call0_cst : Ref sig .tc := ⟨.hbm, 11, rfl⟩
abbrev main_call1_call0_v0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.Points.lean ====
/- The grid's sixteen points, as the hand proofs about the idealized kernel use them: which points open a new
   sequence, the staging memref each window has at a point, and the scratch row that carries the running sums. -/
module

public import proofs.«01_k».proof.Proof.Gen.KernelIdeal.Frame
public import proofs.«01_k».proof.Proof.Gen.KernelIdeal.Skeleton

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's branch is taken: the second grid coordinate is zero, so the point is the first of its sequence. -/
abbrev opens (i : grid0.Coords) : Prop :=
  (Scalar.cmpi .ne (Scalar.extui (Scalar.cmpi .eq (BitVec.ofNat 32 (i 1).val) 0#32)) 0#32) = 1#1

/-- The two coordinates of point `t`: the sequence is `t / 2`, the half of it `t % 2`. -/
theorem coords_zero (t : Fin cfg0.N) : (grid0.coords t 0).val = t.val / 2 := by
  have ht : t.val < 16 := Nat.lt_of_lt_of_eq t.isLt N_0
  have e : (grid0.coords t 0).val = t.val / 2 % 8 := Pipeline.Grid.coords_val t 0 (by decide) rfl
  omega

theorem coords_one (t : Fin cfg0.N) : (grid0.coords t 1).val = t.val % 2 := by
  have e : (grid0.coords t 1).val = t.val / 1 % 2 := Pipeline.Grid.coords_val t 1 (by decide) rfl
  omega

/-- The branch is taken exactly at the even points. -/
theorem opens_iff (t : Fin cfg0.N) : opens (grid0.coords t) ↔ t.val % 2 = 0 := by
  have ht : t.val < 16 := Nat.lt_of_lt_of_eq t.isLt N_0
  simp only [opens, coords_one]
  word_cmp

/-! The staging memref of each window at a point, and that it is a whole buffer. -/

abbrev st0 (t : Fin cfg0.N) : Memref sig .tc .smem S1 .i32 := win0_0.stage (cfg0.slots t 0)
abbrev st1 (t : Fin cfg0.N) : Memref sig .tc .vmem S1x4096x512 .f32 := win0_1.stage (cfg0.slots t 1)
abbrev st2 (t : Fin cfg0.N) : Memref sig .tc .vmem S1x512 .f32 := win0_2.stage (cfg0.slots t 2)
abbrev st3 (t : Fin cfg0.N) : Memref sig .tc .vmem S1x512 .f32 := win0_3.stage (cfg0.slots t 3)
abbrev st4 (t : Fin cfg0.N) : Memref sig .tc .vmem S128x128 .f32 := win0_4.stage (cfg0.slots t 4)
abbrev st5 (t : Fin cfg0.N) : Memref sig .tc .vmem S32x256x64 .f32 := win0_5.stage (cfg0.slots t 5)
abbrev st6 (t : Fin cfg0.N) : Memref sig .tc .vmem S1x4096x512 .f32 := win0_6.stage (cfg0.slots t 6)
abbrev wh0 (t : Fin cfg0.N) : (st0 t).IsWhole := hstage0_0 ((cfg0.slots t 0).cast nbuf0_0)
abbrev wh1 (t : Fin cfg0.N) : (st1 t).IsWhole := hstage0_1 ((cfg0.slots t 1).cast nbuf0_1)
abbrev wh2 (t : Fin cfg0.N) : (st2 t).IsWhole := hstage0_2 ((cfg0.slots t 2).cast nbuf0_2)
abbrev wh3 (t : Fin cfg0.N) : (st3 t).IsWhole := hstage0_3 ((cfg0.slots t 3).cast nbuf0_3)
abbrev wh4 (t : Fin cfg0.N) : (st4 t).IsWhole := hstage0_4 ((cfg0.slots t 4).cast nbuf0_4)
abbrev wh5 (t : Fin cfg0.N) : (st5 t).IsWhole := hstage0_5 ((cfg0.slots t 5).cast nbuf0_5)
abbrev wh6 (t : Fin cfg0.N) : (st6 t).IsWhole := hstage0_6 ((cfg0.slots t 6).cast nbuf0_6)

/-- The scratch row of two running sums, a whole buffer of the kernel's own. -/
abbrev carryM : Memref sig .tc .vmem S1x2 .f32 := Memref.whole cc0_scratch0

/-- What the region owns outside its windows: the scratch row at anything, and the generator's register. -/
theorem rest_eq (c : Dev nD) :
    (Pipeline.ΦA spec0 c : sProp 𝕄)
      = iprop(iprop((∃ d, owns (c : Thread nD τ) carryM fullShare d)) ∗ (∃ r, prngReg c r)) := by
  unfold Pipeline.ΦA; rw [scopedRest0_eq]; simp only [carryM, owns_whole]; try rfl

end Cert.KernelIdeal.Hand

end
-- ==== Proof.RunFirst.lean ====
/- The whole body of the idealized kernel at a point that opens a sequence (the scratch row is zeroed first):
   one run, and with it the two lists of pieces the run leaves in the output block and in the scratch row. -/
module

public import proofs.«01_k».proof.Proof.Points

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- From the six inputs at `x0 … x5`, the output block at anything and the scratch row at anything, the body
    runs to its end, leaves the inputs as they were, and has written the first list's pieces over the output
    block and the second list's over the scratch row. -/
noncomputable def run_first (c : Dev nD) (i : grid0.Coords) (arg2 : Memref sig .tc .smem S1 .i32) (harg2 : arg2.IsWhole)
    (arg3 : Memref sig .tc .vmem S1x4096x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S128x128 .f32) (harg6 : arg6.IsWhole)
    (arg7 : Memref sig .tc .vmem S32x256x64 .f32) (harg7 : arg7.IsWhole) (arg8 : Memref sig .tc .vmem S1x4096x512 .f32) (harg8 : arg8.IsWhole)
    (arg9 : Memref sig .tc .vmem S1x2 .f32) (harg9 : arg9.IsWhole) (ho : opens i)
    (x0 : Vec F S1 .i32) (x1 : Vec F S1x4096x512 .f32) (x2 x3 : Vec F S1x512 .f32) (x4 : Vec F S128x128 .f32) (x5 : Vec F S32x256x64 .f32)
    (hz : k0_chk1 (arg2.view.readAt (Elt F) (Rect.unit (s := S1) ![0] S1.size inb_S1_S1_0).toLoadRect (harg2.unread x0) (Shape.Idx.first (numel1_S1.symm ▸ Nat.one_pos)))) :
    (LO : List (View.Piece (Elt F) S1x4096x512 .f32)) ×' { LS : List (View.Piece (Elt F) S1x2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc0_cumulative_layer_norm i arg2 harg2 arg3 harg3 arg4 harg4 arg5 harg5 arg6 harg6 arg7 harg7 arg8 harg8 arg9 harg9) K } := by
  refine ⟨?_, ?_, fun E K => ?run⟩
  case run =>
    simp only [cc0_cumulative_layer_norm_eq_skeleton]; unfold cc0_cumulative_layer_norm_skel
    simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %h0, H0⟩, ⟨%f1, %h1, H1⟩, ⟨%f2, %h2, H2⟩, ⟨%f3, %h3, H3⟩, ⟨%f4, %h4, H4⟩, ⟨%f5, %h5, H5⟩, ⟨%d6, %f6, -, HO⟩, ⟨%d7, %f7, -, HS⟩, Hk⟩
    obtain rfl := harg2.eq_unread h0
    obtain rfl := harg3.eq_unread h1
    obtain rfl := harg4.eq_unread h2
    obtain rfl := harg5.eq_unread h3
    obtain rfl := harg6.eq_unread h4
    obtain rfl := harg7.eq_unread h5
    sl_exec (disch := first | sl_exact ho | sl_exact hz)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; iexact HO
    iexists _; iexact HS

end Cert.KernelIdeal.Hand

end
-- ==== Proof.RunSecond.lean ====
/- The whole body of the idealized kernel at a point that continues a sequence (the scratch row is what the point before left):
   one run, and with it the two lists of pieces the run leaves in the output block and in the scratch row. -/
module

public import proofs.«01_k».proof.Proof.RunFirst

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- From the six inputs at `x0 … x5`, the output block at anything and the scratch row at `xs`, the body
    runs to its end, leaves the inputs as they were, and has written the first list's pieces over the output
    block and the second list's over the scratch row. -/
noncomputable def run_second (c : Dev nD) (i : grid0.Coords) (arg2 : Memref sig .tc .smem S1 .i32) (harg2 : arg2.IsWhole)
    (arg3 : Memref sig .tc .vmem S1x4096x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S128x128 .f32) (harg6 : arg6.IsWhole)
    (arg7 : Memref sig .tc .vmem S32x256x64 .f32) (harg7 : arg7.IsWhole) (arg8 : Memref sig .tc .vmem S1x4096x512 .f32) (harg8 : arg8.IsWhole)
    (arg9 : Memref sig .tc .vmem S1x2 .f32) (harg9 : arg9.IsWhole) (ho : ¬opens i)
    (x0 : Vec F S1 .i32) (x1 : Vec F S1x4096x512 .f32) (x2 x3 : Vec F S1x512 .f32) (x4 : Vec F S128x128 .f32) (x5 : Vec F S32x256x64 .f32) (xs : Vec F S1x2 .f32)
    (hz : k0_chk1 (arg2.view.readAt (Elt F) (Rect.unit (s := S1) ![0] S1.size inb_S1_S1_0).toLoadRect (harg2.unread x0) (Shape.Idx.first (numel1_S1.symm ▸ Nat.one_pos)))) :
    (LO : List (View.Piece (Elt F) S1x4096x512 .f32)) ×' { LS : List (View.Piece (Elt F) S1x2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc0_cumulative_layer_norm i arg2 harg2 arg3 harg3 arg4 harg4 arg5 harg5 arg6 harg6 arg7 harg7 arg8 harg8 arg9 harg9) K } := by
  refine ⟨?_, ?_, fun E K => ?run⟩
  case run =>
    simp only [cc0_cumulative_layer_norm_eq_skeleton]; unfold cc0_cumulative_layer_norm_skel
    simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %h0, H0⟩, ⟨%f1, %h1, H1⟩, ⟨%f2, %h2, H2⟩, ⟨%f3, %h3, H3⟩, ⟨%f4, %h4, H4⟩, ⟨%f5, %h5, H5⟩, ⟨%d6, %f6, -, HO⟩, ⟨%f7, %h7, HS⟩, Hk⟩
    obtain rfl := harg2.eq_unread h0
    obtain rfl := harg3.eq_unread h1
    obtain rfl := harg4.eq_unread h2
    obtain rfl := harg5.eq_unread h3
    obtain rfl := harg6.eq_unread h4
    obtain rfl := harg7.eq_unread h5
    obtain rfl := harg9.eq_unread h7
    sl_exec (disch := first | sl_exact ho | sl_exact hz)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; iexact HO
    iexists _; iexact HS

end Cert.KernelIdeal.Hand

end
-- ==== Proof.Block.lean ====
/- What one run of the kernel's body computes, as plain functions of the 32 row tiles of its block, the two
   constant operands, the gain row and the carried sums: the statistics of every row, the rows it stores, and
   the sums it hands on. -/
module

public import proofs.«01_k».proof.Proof.Points
public import Idealize.ShloMosaic.Lib.Pointwise

@[expose] public section

noncomputable section

namespace Cert.KernelIdeal.Hand

open Cert.KernelIdeal.Gen
open Idealize.ShloMosaic Idealize.ShloMosaic.TcCoe

variable {F : FTy → Type} [FloatOps F]

/-- The sums of the tiles `0 … n`, added up from the left: column `c` is to hold the row sums of tile `c`,
    column `32 + c` the row sums of its squares. -/
def sums (T : Fin 32 → Vec F S1x128x512 .f32) (W : Fin 32 → Vec F S1x256x64 .f32) : Nat → FVec F S128x64 .f32
  | 0 => k0_pay4 (T 0) (W 0)
  | n + 1 => addf (sums T W n) (k0_pay4 (T (Fin.ofNat 32 (n + 1))) (W (Fin.ofNat 32 (n + 1))))

/-- The sums down the rows of each tile: the triangle of ones times the sums of all 32 tiles. -/
def cum (T : Fin 32 → Vec F S1x128x512 .f32) (W : Fin 32 → Vec F S1x256x64 .f32) (tri : Vec F S128x128 .f32) : FVec F S128x64 .f32 :=
  matmul dot_S128x128_S128x64_S128x64_1_0_0_1_n_n none (shapeCast S128x128 tri shapeCasts_S128x128_S128x128)
    (sums T W 31) (constant S128x64 .f32 0x00000000#32)

/-- The whole tiles' sums (the last row of `cum`), and those of the squares. -/
def tot0 (C : FVec F S128x64 .f32) : FVec F S1x32 .f32 :=
  extractStridedSlice S1x32 ![0, 0] (extractStridedSlice S1x64 ![127, 0] C slices_S128x64_o127_0_S1x64) slices_S1x64_o0_0_S1x32
def tot1 (C : FVec F S128x64 .f32) : FVec F S1x32 .f32 :=
  extractStridedSlice S1x32 ![0, 32] (extractStridedSlice S1x64 ![127, 0] C slices_S128x64_o127_0_S1x64) slices_S1x64_o0_32_S1x32

/-- A row of 32 shifted right by one, a zero coming in. -/
def shift (t : FVec F S1x32 .f32) : FVec F S1x32 .f32 :=
  concatenate S1x32 1 [⟨S1x1, k0_pay64⟩, ⟨S1x31, extractStridedSlice S1x31 ![0, 0] t slices_S1x32_o0_0_S1x31⟩] concatenates_S1x1_S1x31_S1x32_d1

/-- What stands before each tile: the carried sum and the tiles before it. -/
def base0 (C : FVec F S128x64 .f32) (s : Vec F S1x2 .f32) : FVec F S1x32 .f32 := k0_pay65 s (shift (tot0 C)) k0_pay64
def base1 (C : FVec F S128x64 .f32) (s : Vec F S1x2 .f32) : FVec F S1x32 .f32 := k0_pay66 s (shift (tot1 C))

/-- The sums handed on to the next block of the sequence. -/
def carryOut (C : FVec F S128x64 .f32) (s : Vec F S1x2 .f32) : FVec F S1x2 .f32 :=
  k0_pay69 (k0_pay67 s (tot0 C) (shift (tot0 C)) k0_pay64) (k0_pay68 s (tot1 C) (shift (tot1 C)))

/-- The running mean of every row (row `r` of tile `c` at `(r, c)`), and one over its deviation. -/
def meanOf (k : BitVec 32) (C : FVec F S128x64 .f32) (s : Vec F S1x2 .f32) : FVec F S128x32 .f32 := k0_pay72 k C (base0 C s) (base1 C s)
def invOf (k : BitVec 32) (C : FVec F S128x64 .f32) (s : Vec F S1x2 .f32) : FVec F S128x32 .f32 := k0_pay73 k C (base0 C s) (base1 C s)

/-- Column `c` of a `128 × 32` array is within it. -/
theorem slices_col (c : Fin 32) : S128x32.Slices ![0, c.val] S128x1 := by
  revert c; decide

/-- Tile `c` as it is stored: each row less its mean, over its deviation, times the gain. -/
def stored (c : Fin 32) (g : Vec F S1x512 .f32) (m v : FVec F S128x32 .f32) (x : Vec F S1x128x512 .f32) : FVec F S1x128x512 .f32 :=
  shapeCast S1x128x512
    (mulf (mulf (subf (shapeCast S128x512 x shapeCasts_S1x128x512_S128x512)
            (broadcastTo S128x512 (extractStridedSlice S128x1 ![0, c.val] m (slices_col c)) broadcasts_S128x1_S128x512))
          (broadcastTo S128x512 (extractStridedSlice S128x1 ![0, c.val] v (slices_col c)) broadcasts_S128x1_S128x512))
      (broadcastTo S128x512 g broadcasts_S1x512_S128x512))
    shapeCasts_S128x512_S1x128x512

/-- Tile `c` of a block: its rows `128 c … 128 c + 127`. -/
def tile (x : Vec F S1x4096x512 .f32) (c : Fin 32) : Vec F S1x128x512 .f32 :=
  fun j => x (ix3 0 ⟨128 * c.val + (j 1).val, by have h : (j 1).val < 128 := (j 1).isLt; omega⟩ (j 2))

/-- Slab `c` of the constant stack. -/
def slab (w : Vec F S32x256x64 .f32) (c : Fin 32) : Vec F S1x256x64 .f32 :=
  fun j => w (ix3 c (j 1) (j 2))

/-- The block's sums down the rows of each tile. -/
def cumOf (x : Vec F S1x4096x512 .f32) (tri : Vec F S128x128 .f32) (w : Vec F S32x256x64 .f32) : FVec F S128x64 .f32 :=
  cum (tile x) (slab w) tri

/-- The block the body stores: row `r` of tile `c` of `stored`. -/
def outBlk (k : BitVec 32) (x : Vec F S1x4096x512 .f32) (g : Vec F S1x512 .f32) (tri : Vec F S128x128 .f32) (w : Vec F S32x256x64 .f32)
    (s : Vec F S1x2 .f32) : Vec F S1x4096x512 .f32 :=
  fun y => stored ⟨(y 1).val / 128, by have h : (y 1).val < 4096 := (y 1).isLt; omega⟩ g
    (meanOf k (cumOf x tri w) s) (invOf k (cumOf x tri w) s)
    (tile x ⟨(y 1).val / 128, by have h : (y 1).val < 4096 := (y 1).isLt; omega⟩)
    (ix3 0 ⟨(y 1).val % 128, Nat.mod_lt _ (by decide)⟩ (y 2))

/-- The sums the body hands on. -/
def carryBlk (x : Vec F S1x4096x512 .f32) (tri : Vec F S128x128 .f32) (w : Vec F S32x256x64 .f32) (s : Vec F S1x2 .f32) : Vec F S1x2 .f32 :=
  carryOut (cumOf x tri w) s

end Cert.KernelIdeal.Hand

end
-- ==== Proof.FirstPieces.lean ====
/- The pieces found by the run of a sequence's first block, named: 32 stored tiles, last first, and the sums
   handed on, over the reads the body makes. -/
module

public import proofs.«01_k».proof.Proof.RunFirst
public import proofs.«01_k».proof.Proof.Block

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI

variable {F : FTy → Type} [FloatOps F]

/-- The first word of the row offset's operand, as the body reads it. -/
abbrev word (arg2 : Memref sig .tc .smem S1 .i32) (harg2 : arg2.IsWhole) (x0 : Vec F S1 .i32) : BitVec 32 :=
  arg2.view.readAt (Elt F) (Rect.unit (s := S1) ![0] S1.size inb_S1_S1_0).toLoadRect (harg2.unread x0) (Shape.Idx.first (numel1_S1.symm ▸ Nat.one_pos))

theorem inb_tile (c : Fin 32) (a : Fin 3) : (![0, 128 * c.val, 0] : Fin 3 → Nat) a + S1x128x512.size a ≤ S1x4096x512.size a := by
  revert c a; decide

theorem inb_slab (c : Fin 32) (a : Fin 3) : (![c.val, 0, 0] : Fin 3 → Nat) a + S1x256x64.size a ≤ S32x256x64.size a := by
  revert c a; decide

/-- Tile `c` read at its place. -/
def rdTile (arg3 : Memref sig .tc .vmem S1x4096x512 .f32) (harg3 : arg3.IsWhole) (x1 : Vec F S1x4096x512 .f32) (c : Fin 32) : Vec F S1x128x512 .f32 :=
  arg3.view.readAt (Elt F) (Rect.unit (s := S1x4096x512) ![0, 128 * c.val, 0] S1x128x512.size (inb_tile c)).toLoadRect (harg3.unread x1)

/-- Slab `c` of the constant stack read at its place. -/
def rdSlab (arg7 : Memref sig .tc .vmem S32x256x64 .f32) (harg7 : arg7.IsWhole) (x5 : Vec F S32x256x64 .f32) (c : Fin 32) : Vec F S1x256x64 .f32 :=
  arg7.view.readAt (Elt F) (Rect.unit (s := S32x256x64) ![c.val, 0, 0] S1x256x64.size (inb_slab c)).toLoadRect (harg7.unread x5)

/-- The triangle and the gain row, read whole. -/
def rdTri (arg6 : Memref sig .tc .vmem S128x128 .f32) (harg6 : arg6.IsWhole) (x4 : Vec F S128x128 .f32) : Vec F S128x128 .f32 :=
  arg6.view.readAt (Elt F) (Rect.unit (s := S128x128) ![0, 0] S128x128.size inb_S128x128_S128x128_0_0).toLoadRect (harg6.unread x4)
def rdGain (arg4 : Memref sig .tc .vmem S1x512 .f32) (harg4 : arg4.IsWhole) (x2 : Vec F S1x512 .f32) : Vec F S1x512 .f32 :=
  arg4.view.readAt (Elt F) (Rect.unit (s := S1x512) ![0, 0] S1x512.size inb_S1x512_S1x512_0_0).toLoadRect (harg4.unread x2)

/-- Tile `c` read at the row offset shifted by the word `z`. -/
def rdShifted (arg3 : Memref sig .tc .vmem S1x4096x512 .f32) (harg3 : arg3.IsWhole) (x1 : Vec F S1x4096x512 .f32) (z : BitVec 32) (hz : k0_chk1 z) (c : Fin 32) :
    Vec F S1x128x512 .f32 :=
  arg3.view.readAt (Elt F) (Rect.unit (s := S1x4096x512) (k0_off1 z (BitVec.ofNat 32 (128 * c.val))) S1x128x512.size (k0_off1_inb z hz c)).toLoadRect (harg3.unread x1)

/-- The pieces of an output block: tile `31 - n` at the row offset shifted by `z`, with the given statistics. -/
abbrev tilePieces (z : BitVec 32) (hz : k0_chk1 z) (g : Vec F S1x512 .f32) (m v : FVec F S128x32 .f32) (U : Fin 32 → Vec F S1x128x512 .f32) :
    List (View.Piece (Elt F) S1x4096x512 .f32) :=
  List.ofFn fun n : Fin 32 => ⟨Rect.unit (s := S1x4096x512) (k0_off1 z (BitVec.ofNat 32 (128 * (Fin.rev n).val))) S1x128x512.size (k0_off1_inb z hz (Fin.rev n)),
    stored (Fin.rev n) g m v (U (Fin.rev n))⟩

variable (c : Dev nD) (i : grid0.Coords) (arg2 : Memref sig .tc .smem S1 .i32) (harg2 : arg2.IsWhole)
    (arg3 : Memref sig .tc .vmem S1x4096x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S128x128 .f32) (harg6 : arg6.IsWhole)
    (arg7 : Memref sig .tc .vmem S32x256x64 .f32) (harg7 : arg7.IsWhole) (arg8 : Memref sig .tc .vmem S1x4096x512 .f32) (harg8 : arg8.IsWhole)
    (arg9 : Memref sig .tc .vmem S1x2 .f32) (harg9 : arg9.IsWhole) (ho : opens i)
    (x0 : Vec F S1 .i32) (x1 : Vec F S1x4096x512 .f32) (x2 x3 : Vec F S1x512 .f32) (x4 : Vec F S128x128 .f32) (x5 : Vec F S32x256x64 .f32)
    (hz : k0_chk1 (word arg2 harg2 x0))

/-- The zeroed scratch row as the body reads it back. -/
def rdZero : Vec F S1x2 .f32 :=
  arg9.view.readCov ([⟨Rect.unit (s := S1x2) ![0, 0] S1x2.size inb_S1x2_S1x2_0_0, k0_pay3⟩] : List (View.Piece (Elt F) S1x2 .f32))
    (Rect.unit (s := S1x2) ![0, 0] S1x2.size inb_S1x2_S1x2_0_0).toLoadRect

set_option maxHeartbeats 4000000 in
/-- The output block's pieces are the 32 tiles stored. -/
theorem first_out :
    (run_first c i arg2 harg2 arg3 harg3 arg4 harg4 arg5 harg5 arg6 harg6 arg7 harg7 arg8 harg8 arg9 harg9 ho x0 x1 x2 x3 x4 x5 hz).1
      = tilePieces (word arg2 harg2 x0) hz (rdGain arg4 harg4 x2)
          (meanOf (BitVec.ofNat 32 (i 1).val) (cum (rdTile arg3 harg3 x1) (rdSlab arg7 harg7 x5) (rdTri arg6 harg6 x4)) (rdZero arg9))
          (invOf (BitVec.ofNat 32 (i 1).val) (cum (rdTile arg3 harg3 x1) (rdSlab arg7 harg7 x5) (rdTri arg6 harg6 x4)) (rdZero arg9))
          (rdShifted arg3 harg3 x1 (word arg2 harg2 x0) hz) := by
  rfl

set_option maxHeartbeats 4000000 in
/-- The scratch row's last piece is the sums handed on. -/
theorem first_carry :
    (run_first c i arg2 harg2 arg3 harg3 arg4 harg4 arg5 harg5 arg6 harg6 arg7 harg7 arg8 harg8 arg9 harg9 ho x0 x1 x2 x3 x4 x5 hz).2.1
      = [⟨Rect.unit (s := S1x2) ![0, 0] S1x2.size inb_S1x2_S1x2_0_0,
            carryOut (cum (rdTile arg3 harg3 x1) (rdSlab arg7 harg7 x5) (rdTri arg6 harg6 x4)) (rdZero arg9)⟩,
          ⟨Rect.unit (s := S1x2) ![0, 0] S1x2.size inb_S1x2_S1x2_0_0, k0_pay3⟩] := by
  rfl

end Cert.KernelIdeal.Hand

end
-- ==== Proof.SecondPieces.lean ====
/- The pieces found by the run of a sequence's second block, named: 32 stored tiles, last first, and the sums
   handed on, over the reads the body makes. -/
module

public import proofs.«01_k».proof.Proof.RunSecond
public import proofs.«01_k».proof.Proof.FirstPieces

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI

variable {F : FTy → Type} [FloatOps F]

variable (c : Dev nD) (i : grid0.Coords) (arg2 : Memref sig .tc .smem S1 .i32) (harg2 : arg2.IsWhole)
    (arg3 : Memref sig .tc .vmem S1x4096x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S128x128 .f32) (harg6 : arg6.IsWhole)
    (arg7 : Memref sig .tc .vmem S32x256x64 .f32) (harg7 : arg7.IsWhole) (arg8 : Memref sig .tc .vmem S1x4096x512 .f32) (harg8 : arg8.IsWhole)
    (arg9 : Memref sig .tc .vmem S1x2 .f32) (harg9 : arg9.IsWhole) (ho : ¬opens i)
    (x0 : Vec F S1 .i32) (x1 : Vec F S1x4096x512 .f32) (x2 x3 : Vec F S1x512 .f32) (x4 : Vec F S128x128 .f32) (x5 : Vec F S32x256x64 .f32) (xs : Vec F S1x2 .f32)
    (hz : k0_chk1 (word arg2 harg2 x0))

/-- The scratch row as the block before left it, read whole. -/
def rdCarry : Vec F S1x2 .f32 :=
  arg9.view.readAt (Elt F) (Rect.unit (s := S1x2) ![0, 0] S1x2.size inb_S1x2_S1x2_0_0).toLoadRect (harg9.unread xs)

set_option maxHeartbeats 4000000 in
/-- The output block's pieces are the 32 tiles stored. -/
theorem second_out :
    (run_second c i arg2 harg2 arg3 harg3 arg4 harg4 arg5 harg5 arg6 harg6 arg7 harg7 arg8 harg8 arg9 harg9 ho x0 x1 x2 x3 x4 x5 xs hz).1
      = tilePieces (word arg2 harg2 x0) hz (rdGain arg4 harg4 x2)
          (meanOf (BitVec.ofNat 32 (i 1).val) (cum (rdTile arg3 harg3 x1) (rdSlab arg7 harg7 x5) (rdTri arg6 harg6 x4)) (rdCarry arg9 harg9 xs))
          (invOf (BitVec.ofNat 32 (i 1).val) (cum (rdTile arg3 harg3 x1) (rdSlab arg7 harg7 x5) (rdTri arg6 harg6 x4)) (rdCarry arg9 harg9 xs))
          (rdShifted arg3 harg3 x1 (word arg2 harg2 x0) hz) := by
  rfl

set_option maxHeartbeats 4000000 in
/-- The scratch row's one piece is the sums handed on. -/
theorem second_carry :
    (run_second c i arg2 harg2 arg3 harg3 arg4 harg4 arg5 harg5 arg6 harg6 arg7 harg7 arg8 harg8 arg9 harg9 ho x0 x1 x2 x3 x4 x5 xs hz).2.1
      = [⟨Rect.unit (s := S1x2) ![0, 0] S1x2.size inb_S1x2_S1x2_0_0,
            carryOut (cum (rdTile arg3 harg3 x1) (rdSlab arg7 harg7 x5) (rdTri arg6 harg6 x4)) (rdCarry arg9 harg9 xs)⟩] := by
  rfl

end Cert.KernelIdeal.Hand

end
-- ==== Proof.BodyValue.lean ====
/- The body as one step on whole blocks: with the row offset's word zero, a run leaves `outBlk` in the output
   block and `carryBlk` in the scratch row. -/
module

public import proofs.«01_k».proof.Proof.SecondPieces
public import Idealize.ShloMosaic.Lib.Pipeline.ValueKit.Tiles
public import Idealize.ShloMosaic.Lib.WritesUnit

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The reads are the tiles, the slabs and the whole operands. -/

theorem rdTile_eq (arg3 : Memref sig .tc .vmem S1x4096x512 .f32) (harg3 : arg3.IsWhole) (x : Vec F S1x4096x512 .f32) :
    rdTile arg3 harg3 x = tile x := by
  funext n j
  rw [rdTile, View.readAt_eq_ld, Memref.IsWhole.read_unread]
  refine View.ld_unit_apply_of _ _ _ _ _ _ fun a => ?_
  have h0 : (j 0).val < 1 := (j 0).isLt
  fin_cases a
  · show (0 : ℕ) = 0 + (j 0).val; omega
  · rfl
  · show (j 2).val = 0 + (j 2).val; omega

theorem rdSlab_eq (arg7 : Memref sig .tc .vmem S32x256x64 .f32) (harg7 : arg7.IsWhole) (x : Vec F S32x256x64 .f32) :
    rdSlab arg7 harg7 x = slab x := by
  funext n j
  rw [rdSlab, View.readAt_eq_ld, Memref.IsWhole.read_unread]
  refine View.ld_unit_apply_of _ _ _ _ _ _ fun a => ?_
  have h0 : (j 0).val < 1 := (j 0).isLt
  fin_cases a
  · show n.val = n.val + (j 0).val; omega
  · show (j 1).val = 0 + (j 1).val; omega
  · show (j 2).val = 0 + (j 2).val; omega

theorem rdTri_eq (arg6 : Memref sig .tc .vmem S128x128 .f32) (harg6 : arg6.IsWhole) (x : Vec F S128x128 .f32) :
    rdTri arg6 harg6 x = x := by
  rw [rdTri, View.readAt_eq_ld, Memref.IsWhole.read_unread]
  exact View.ld_unit_zero (by decide) _ _

theorem rdGain_eq (arg4 : Memref sig .tc .vmem S1x512 .f32) (harg4 : arg4.IsWhole) (x : Vec F S1x512 .f32) :
    rdGain arg4 harg4 x = x := by
  rw [rdGain, View.readAt_eq_ld, Memref.IsWhole.read_unread]
  exact View.ld_unit_zero (by decide) _ _

theorem rdCarry_eq (arg9 : Memref sig .tc .vmem S1x2 .f32) (harg9 : arg9.IsWhole) (x : Vec F S1x2 .f32) :
    rdCarry arg9 harg9 x = x := by
  rw [rdCarry, View.readAt_eq_ld, Memref.IsWhole.read_unread]
  exact View.ld_unit_zero (by decide) _ _

theorem rdZero_eq (arg9 : Memref sig .tc .vmem S1x2 .f32) : rdZero (F := F) arg9 = k0_pay3 :=
  View.readCov_unit_lit arg9.view _ _ (by decide)

theorem word_eq (arg2 : Memref sig .tc .smem S1 .i32) (harg2 : arg2.IsWhole) (x0 : Vec F S1 .i32) (h0 : ∀ j, x0 j = 0#32) :
    word arg2 harg2 x0 = 0#32 := by
  rw [word, View.readAt_eq_ld, Memref.IsWhole.read_unread]
  exact h0 _

/-- At the zero word every fact the body assumes of it holds. -/
theorem chk_zero : k0_chk1 0#32 := by decide

/-- The row offset of tile `c` at the zero word. -/
theorem off_zero (c : Fin 32) : k0_off1 0#32 (BitVec.ofNat 32 (128 * c.val)) = ![0, 128 * c.val, 0] := by
  revert c; decide

theorem rdShifted_eq (arg3 : Memref sig .tc .vmem S1x4096x512 .f32) (harg3 : arg3.IsWhole) (x : Vec F S1x4096x512 .f32)
    (z : BitVec 32) (hz : k0_chk1 z) (h0 : z = 0#32) : rdShifted arg3 harg3 x z hz = tile x := by
  subst h0
  funext n j
  rw [rdShifted, View.readAt_eq_ld, Memref.IsWhole.read_unread]
  refine View.ld_unit_apply_of _ _ _ _ _ _ fun a => ?_
  refine Eq.trans ?_ (congrArg (· + (j a).val) (congrFun (off_zero n) a)).symm
  have h0 : (j 0).val < 1 := (j 0).isLt
  fin_cases a
  · show (0 : ℕ) = 0 + (j 0).val; omega
  · rfl
  · show (j 2).val = 0 + (j 2).val; omega

/-- The 32 pieces, at the zero word, put together: row `128 c + r` is row `r` of tile `c`. -/
theorem canon_tilePieces (z : BitVec 32) (hz : k0_chk1 z) (h0 : z = 0#32) (g : Vec F S1x512 .f32) (m v : FVec F S128x32 .f32)
    (U : Fin 32 → Vec F S1x128x512 .f32) (y : S1x4096x512.Idx) :
    View.canon (tilePieces z hz g m v U) y
      = stored ⟨(y 1).val / 128, by have h : (y 1).val < 4096 := (y 1).isLt; omega⟩ g m v
          (U ⟨(y 1).val / 128, by have h : (y 1).val < 4096 := (y 1).isLt; omega⟩)
          (ix3 0 ⟨(y 1).val % 128, Nat.mod_lt _ (by decide)⟩ (y 2)) := by
  subst h0
  have hy0 : (y 0).val < 1 := (y 0).isLt
  have hy1 : (y 1).val < 4096 := (y 1).isLt
  have hy2 : (y 2).val < 512 := (y 2).isLt
  refine View.canon_ofFn_unit_eq_of_forall (S := S1x4096x512) (Val := Elt F) (e := .f32) (fun n => k0_off1 0#32 (BitVec.ofNat 32 (128 * (Fin.rev n).val))) S1x128x512.size
    (fun n => k0_off1_inb 0#32 hz (Fin.rev n)) (fun n => stored (Fin.rev n) g m v (U (Fin.rev n))) y _ ?_ ?_
  · refine ⟨Fin.rev ⟨(y 1).val / 128, by omega⟩, fun a => ?_⟩
    dsimp only
    rw [off_zero, Fin.rev_rev]
    fin_cases a
    · show 0 ≤ (y 0).val ∧ (y 0).val < 0 + 1; omega
    · show 128 * ((y 1).val / 128) ≤ (y 1).val ∧ (y 1).val < 128 * ((y 1).val / 128) + 128; omega
    · show 0 ≤ (y 2).val ∧ (y 2).val < 0 + 512; omega
  · intro n x hx
    rw [off_zero] at hx
    have e0 : (y 0).val = 0 + (x 0).val := hx 0
    have e1 : (y 1).val = 128 * (Fin.rev n).val + (x 1).val := hx 1
    have e2 : (y 2).val = 0 + (x 2).val := hx 2
    have hx1 : (x 1).val < 128 := (x 1).isLt
    generalize Fin.rev n = q at *
    have eq : q = ⟨(y 1).val / 128, by omega⟩ := Fin.ext (by show q.val = (y 1).val / 128; omega)
    rw [← eq]
    refine congrArg _ (funext fun a => Fin.ext ?_)
    fin_cases a
    · show (x 0).val = 0; omega
    · show (x 1).val = (y 1).val % 128; omega
    · show (x 2).val = (y 2).val; omega

/-- Some piece holds every index. -/
theorem cover_tilePieces (z : BitVec 32) (hz : k0_chk1 z) (h0 : z = 0#32) (g : Vec F S1x512 .f32) (m v : FVec F S128x32 .f32)
    (U : Fin 32 → Vec F S1x128x512 .f32) (y : S1x4096x512.Idx) : ∃ p ∈ tilePieces z hz g m v U, y ∈ p.1.set := by
  subst h0
  have hy0 : (y 0).val < 1 := (y 0).isLt
  have hy1 : (y 1).val < 4096 := (y 1).isLt
  have hy2 : (y 2).val < 512 := (y 2).isLt
  refine ⟨_, List.mem_ofFn.mpr ⟨Fin.rev ⟨(y 1).val / 128, by omega⟩, rfl⟩, ?_⟩
  refine (Rect.mem_set_unit (s := S1x4096x512) (off := k0_off1 0#32 (BitVec.ofNat 32 (128 * (Fin.rev (Fin.rev (⟨(y 1).val / 128, by omega⟩ : Fin 32))).val))) (size := S1x128x512.size) (inb := k0_off1_inb 0#32 hz _)).mpr fun a => ?_
  rw [off_zero, Fin.rev_rev]
  fin_cases a
  · show 0 ≤ (y 0).val ∧ (y 0).val < 0 + 1; omega
  · show 128 * ((y 1).val / 128) ≤ (y 1).val ∧ (y 1).val < 128 * ((y 1).val / 128) + 128; omega
  · show 0 ≤ (y 2).val ∧ (y 2).val < 0 + 512; omega

/-- So the output block reads `outBlk`, whatever it held before. -/
theorem read_tilePieces (arg8 : Memref sig .tc .vmem S1x4096x512 .f32) (f : arg8.view.ty.Contents (Elt F))
    (z : BitVec 32) (hz : k0_chk1 z) (h0 : z = 0#32) (k : BitVec 32) (x : Vec F S1x4096x512 .f32) (g : Vec F S1x512 .f32)
    (tri : Vec F S128x128 .f32) (w : Vec F S32x256x64 .f32) (s : Vec F S1x2 .f32) :
    arg8.view.read (Elt F) (arg8.view.writes (Elt F) f (tilePieces z hz g (meanOf k (cumOf x tri w) s) (invOf k (cumOf x tri w) s) (tile x)))
      = outBlk k x g tri w s := by
  rw [View.read_writes_eq_canon _ _ _ (cover_tilePieces z hz h0 _ _ _ _)]
  funext y
  exact canon_tilePieces z hz h0 _ _ _ _ y

/-- A scratch row whose last piece is the whole of it reads that piece. -/
theorem read_whole (arg9 : Memref sig .tc .vmem S1x2 .f32) (f : arg9.view.ty.Contents (Elt F)) (d : Vec F S1x2 .f32)
    (L : List (View.Piece (Elt F) S1x2 .f32)) :
    arg9.view.read (Elt F) (arg9.view.writes (Elt F) f (⟨Rect.unit (s := S1x2) ![0, 0] S1x2.size inb_S1x2_S1x2_0_0, d⟩ :: L)) = d := by
  funext y
  exact View.read_writes_cons_unit_of_mem _ _ _ _ _ y (fun a => y a) (off' := fun _ => 0) (by decide) (fun a => (Nat.zero_add _).symm)

/-- What holds of a pair of lists holds of the same lists under other names. -/
theorem of_lists {A B : Type} {P : A → B → Prop} (r : (a : A) ×' { b : B // P a b }) {a : A} {b : B} (ha : r.1 = a) (hb : r.2.1 = b) : P a b := by
  obtain ⟨a', b', h⟩ := r
  subst ha hb
  exact h

section Step

variable (c : Dev nD) (i : grid0.Coords) (arg2 : Memref sig .tc .smem S1 .i32) (harg2 : arg2.IsWhole)
    (arg3 : Memref sig .tc .vmem S1x4096x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S128x128 .f32) (harg6 : arg6.IsWhole)
    (arg7 : Memref sig .tc .vmem S32x256x64 .f32) (harg7 : arg7.IsWhole) (arg8 : Memref sig .tc .vmem S1x4096x512 .f32) (harg8 : arg8.IsWhole)
    (arg9 : Memref sig .tc .vmem S1x2 .f32) (harg9 : arg9.IsWhole)
    (x0 : Vec F S1 .i32) (h0 : ∀ j, x0 j = 0#32) (x1 : Vec F S1x4096x512 .f32) (x2 x3 : Vec F S1x512 .f32) (x4 : Vec F S128x128 .f32) (x5 : Vec F S32x256x64 .f32)

include h0

/-- The first block of a sequence: the sums start at zero. -/
theorem body_first (ho : opens i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (outBlk (BitVec.ofNat 32 (i 1).val) x1 x2 x4 x5 k0_pay3)
            ∗ owns (c : Thread nD τ) arg9 fullShare (carryBlk x1 x4 x5 k0_pay3)) -∗ K ⟨⟩))
      ⊢ wp frame (wpE (defs₀ (F := F)) Variants.none c none) E (cc0_cumulative_layer_norm i arg2 harg2 arg3 harg3 arg4 harg4 arg5 harg5 arg6 harg6 arg7 harg7 arg8 harg8 arg9 harg9) K := by
  have hw := word_eq arg2 harg2 x0 h0
  have hz : k0_chk1 (word arg2 harg2 x0) := hw ▸ chk_zero
  have h1 := first_out c i arg2 harg2 arg3 harg3 arg4 harg4 arg5 harg5 arg6 harg6 arg7 harg7 arg8 harg8 arg9 harg9 ho x0 x1 x2 x3 x4 x5 hz
  have h2 := first_carry c i arg2 harg2 arg3 harg3 arg4 harg4 arg5 harg5 arg6 harg6 arg7 harg7 arg8 harg8 arg9 harg9 ho x0 x1 x2 x3 x4 x5 hz
  rw [rdTile_eq, rdSlab_eq, rdTri_eq, rdGain_eq, rdZero_eq, rdShifted_eq _ _ _ _ _ hw] at h1
  rw [rdTile_eq, rdSlab_eq, rdTri_eq, rdZero_eq] at h2
  have hrun := of_lists (run_first c i arg2 harg2 arg3 harg3 arg4 harg4 arg5 harg5 arg6 harg6 arg7 harg7 arg8 harg8 arg9 harg9 ho x0 x1 x2 x3 x4 x5 hz) h1 h2 E K
  refine BIBase.Entails.trans ?_ hrun
  iintro ⟨H0, H1, H2, H3, H4, H5, HO, HS, Hk⟩
  isplitl [H0]; · iexact H0
  isplitl [H1]; · iexact H1
  isplitl [H2]; · iexact H2
  isplitl [H3]; · iexact H3
  isplitl [H4]; · iexact H4
  isplitl [H5]; · iexact H5
  isplitl [HO]; · iexact HO
  isplitl [HS]; · iexact HS
  iintro ⟨H0, H1, H2, H3, H4, H5, ⟨%f, HO⟩, ⟨%f', HS⟩⟩
  iapply Hk
  isplitl [H0]; · iexact H0
  isplitl [H1]; · iexact H1
  isplitl [H2]; · iexact H2
  isplitl [H3]; · iexact H3
  isplitl [H4]; · iexact H4
  isplitl [H5]; · iexact H5
  unfold owns
  isplitl [HO]
  · iexists _; isplitr
    · ipureintro; exact read_tilePieces arg8 f _ hz hw _ x1 x2 x4 x5 k0_pay3
    iexact HO
  · iexists _; isplitr
    · ipureintro; exact read_whole arg9 f' _ [⟨Rect.unit (s := S1x2) ![0, 0] S1x2.size inb_S1x2_S1x2_0_0, k0_pay3⟩]
    iexact HS

/-- The second block of a sequence: the sums start at what the first handed on. -/
theorem body_second (ho : ¬opens i) (xs : Vec F S1x2 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (outBlk (BitVec.ofNat 32 (i 1).val) x1 x2 x4 x5 xs)
            ∗ owns (c : Thread nD τ) arg9 fullShare (carryBlk x1 x4 x5 xs)) -∗ K ⟨⟩))
      ⊢ wp frame (wpE (defs₀ (F := F)) Variants.none c none) E (cc0_cumulative_layer_norm i arg2 harg2 arg3 harg3 arg4 harg4 arg5 harg5 arg6 harg6 arg7 harg7 arg8 harg8 arg9 harg9) K := by
  have hw := word_eq arg2 harg2 x0 h0
  have hz : k0_chk1 (word arg2 harg2 x0) := hw ▸ chk_zero
  have h1 := second_out c i arg2 harg2 arg3 harg3 arg4 harg4 arg5 harg5 arg6 harg6 arg7 harg7 arg8 harg8 arg9 harg9 ho x0 x1 x2 x3 x4 x5 xs hz
  have h2 := second_carry c i arg2 harg2 arg3 harg3 arg4 harg4 arg5 harg5 arg6 harg6 arg7 harg7 arg8 harg8 arg9 harg9 ho x0 x1 x2 x3 x4 x5 xs hz
  rw [rdTile_eq, rdSlab_eq, rdTri_eq, rdGain_eq, rdCarry_eq, rdShifted_eq _ _ _ _ _ hw] at h1
  rw [rdTile_eq, rdSlab_eq, rdTri_eq, rdCarry_eq] at h2
  have hrun := of_lists (run_second c i arg2 harg2 arg3 harg3 arg4 harg4 arg5 harg5 arg6 harg6 arg7 harg7 arg8 harg8 arg9 harg9 ho x0 x1 x2 x3 x4 x5 xs hz) h1 h2 E K
  refine BIBase.Entails.trans ?_ hrun
  iintro ⟨H0, H1, H2, H3, H4, H5, HO, HS, Hk⟩
  isplitl [H0]; · iexact H0
  isplitl [H1]; · iexact H1
  isplitl [H2]; · iexact H2
  isplitl [H3]; · iexact H3
  isplitl [H4]; · iexact H4
  isplitl [H5]; · iexact H5
  isplitl [HO]; · iexact HO
  isplitl [HS]; · iexact HS
  iintro ⟨H0, H1, H2, H3, H4, H5, ⟨%f, HO⟩, ⟨%f', HS⟩⟩
  iapply Hk
  isplitl [H0]; · iexact H0
  isplitl [H1]; · iexact H1
  isplitl [H2]; · iexact H2
  isplitl [H3]; · iexact H3
  isplitl [H4]; · iexact H4
  isplitl [H5]; · iexact H5
  unfold owns
  isplitl [HO]
  · iexists _; isplitr
    · ipureintro; exact read_tilePieces arg8 f _ hz hw _ x1 x2 x4 x5 xs
    iexact HO
  · iexists _; isplitr
    · ipureintro; exact read_whole arg9 f' _ []
    iexact HS

end Step

end Cert.KernelIdeal.Hand

end
-- ==== Proof.HostTables.lean ====
/- What the host prepares before the idealized kernel starts: the word zero the kernel reads for its offset, the lower
   triangle of ones, and the 0/1 mask that sends a chunk's row sums to the chunk's two columns. -/
module

public import proofs.«01_k».proof.Proof.Points
public import Idealize.ShloMosaic.Lib.StableHlo.Run
public import Idealize.ShloMosaic.Lib.Pointwise

@[expose] public section

noncomputable section

namespace Cert.KernelIdeal.Hand

open Cert.KernelIdeal.Gen
open Idealize.ShloMosaic Idealize.ShloMosaic.TcCoe
open Idealize.SL.Sem

variable {F : FTy → Type} [FloatOps F]

variable (m : (ℓ : Loc nD τ sig) → Buf (Elt F) ℓ)

/-- The array of one word is the constant zero. -/
theorem V_word (c : Dev nD) : V m c main_v17 = broadcastInDim S1 ![] bcast_S_S1 (constantI S_ 32 0#32) := by
  unfold V
  simp only [List.flatten_cons, List.flatten_nil, List.append_nil, List.cons_append, List.nil_append]
  after_results

/-- The triangle the host builds: ones, kept where the row is at least the column, and zero elsewhere. -/
def hostTri : Vec F S128x128 .f32 :=
  select (cmpi .sge (addi (iotaInDim S128x128 32 0) (broadcastInDim S128x128 ![] bcast_S_S128x128 (constantI S_ 32 0#32))) (iotaInDim S128x128 32 1))
    (broadcastInDim S128x128 ![] bcast_S_S128x128 (constant S_ .f32 0x3F800000#32))
    (broadcastInDim S128x128 ![] bcast_S_S128x128 (constant S_ .f32 0x00000000#32))

theorem V_tri (c : Dev nD) : V m c main_v1 = hostTri := by
  unfold V
  simp only [List.flatten_cons, List.flatten_nil, List.append_nil, List.cons_append, List.nil_append]
  after_results
  rfl

/-- The mask the host builds: column `c` of slab `c` for the first 128 lanes, column `32 + c` for the others. -/
def hostMask : Vec F S32x256x64 .f32 :=
  uitofp .f32 (ori
    (andi (cmpi .eq (iotaInDim S32x256x64 32 2) (iotaInDim S32x256x64 32 0))
      (cmpi .slt (iotaInDim S32x256x64 32 1) (broadcastInDim S32x256x64 ![] bcast_S_S32x256x64 (constantI S_ 32 128#32))))
    (andi (cmpi .eq (iotaInDim S32x256x64 32 2) (addi (broadcastInDim S32x256x64 ![] bcast_S_S32x256x64 (constantI S_ 32 32#32)) (iotaInDim S32x256x64 32 0)))
      (cmpi .sge (iotaInDim S32x256x64 32 1) (broadcastInDim S32x256x64 ![] bcast_S_S32x256x64 (constantI S_ 32 128#32)))))

theorem V_mask (c : Dev nD) : V m c main_v16 = hostMask := by
  unfold V
  simp only [List.flatten_cons, List.flatten_nil, List.append_nil, List.cons_append, List.nil_append]
  after_results
  rfl

end Cert.KernelIdeal.Hand

end
-- ==== Proof.InputBlocks.lean ====
/- What the kernel finds in its input windows at a grid point: the half sequence the point works on, the gain row whole,
   and the host's tables whole. -/
module

public import proofs.«01_k».proof.Proof.HostTables
public import Idealize.ShloMosaic.Lib.Pipeline.ValueKit

@[expose] public section

noncomputable section

namespace Cert.KernelIdeal.Hand

open Cert.KernelIdeal.Gen
open Idealize.ShloMosaic Idealize.ShloMosaic.TcCoe
open Idealize.SL.Sem

variable {F : FTy → Type} [FloatOps F]

variable (m : (ℓ : Loc nD τ sig) → Buf (Elt F) ℓ)

/-- Which block of its array each moving window is on at point `t`: sequence `t / 2`, half `t % 2`. -/
theorem index_in : ∀ t : Fin grid0.N, win0_1.index t = ![t.val / 2, t.val % 2, 0] := by decide +kernel
theorem index_out : ∀ t : Fin grid0.N, win0_6.index t = ![t.val / 2, t.val % 2, 0] := by decide +kernel
/-- The other windows stay on their one block. -/
theorem index_gain : ∀ t : Fin grid0.N, win0_2.index t = ![0, 0] := by decide +kernel
theorem index_tri : ∀ t : Fin grid0.N, win0_4.index t = ![0, 0] := by decide +kernel
theorem index_mask : ∀ t : Fin grid0.N, win0_5.index t = ![0, 0, 0] := by decide +kernel

/-- The offset word's window reads the word zero. -/
theorem blk_word (c : Dev nD) (t : Fin cfg0.N) (j : S1.Idx) : (iblk m c 0 t : Vec F S1 .i32) j = 0#32 := by
  show V m c main_v17 _ = 0#32
  rw [V_word]; rfl

/-- The sequence's window reads rows `4096 (t % 2)` onwards of sequence `t / 2`. -/
theorem blk_in (c : Dev nD) (t : Fin cfg0.N) (a : Fin 1) (r : Fin 4096) (l : Fin 512) (b : Fin 8) (q : Fin 8192)
    (hb : b.val = t.val / 2) (hq : q.val = 4096 * (t.val % 2) + r.val) :
    (iblk m c 1 t : Vec F S1x4096x512 .f32) (ix3 a r l) = (m ((c : Thread nD τ).loc main_arg0) : Vec F S8x8192x512 .f32) (ix3 b q l) := by
  show V m c main_arg0 (((cfg0.win 1).blk t).view.emb (ix3 a r l)) = _
  rw [V_main_arg0]
  have ha : a.val = 0 := by omega
  blk_ext [index_in]

/-- The gain's window reads the gain row. -/
theorem blk_gain (c : Dev nD) (t : Fin cfg0.N) :
    (iblk m c 2 t : Vec F S1x512 .f32) = (m ((c : Thread nD τ).loc main_arg1) : Vec F S1x512 .f32) := by
  funext j
  show V m c main_arg1 (((cfg0.win 2).blk t).view.emb j) = _
  rw [V_main_arg1]
  blk_ext [index_gain]

/-- The triangle's window reads the host's triangle. -/
theorem blk_tri (c : Dev nD) (t : Fin cfg0.N) : (iblk m c 4 t : Vec F S128x128 .f32) = hostTri := by
  funext j
  show V m c main_v1 (((cfg0.win 4).blk t).view.emb j) = _
  rw [V_tri]
  blk_ext [index_tri]

/-- The mask's window reads the host's mask. -/
theorem blk_mask (c : Dev nD) (t : Fin cfg0.N) : (iblk m c 5 t : Vec F S32x256x64 .f32) = hostMask := by
  funext j
  show V m c main_v16 (((cfg0.win 5).blk t).view.emb j) = _
  rw [V_mask]
  blk_ext [index_mask]

end Cert.KernelIdeal.Hand

end
-- ==== Proof.Launch.lean ====
/- The whole run of the idealized kernel: what every grid point leaves in the result's staging buffer and in the scratch
   row of running sums, and the run of the program from any memory. -/
module

public import proofs.«01_k».proof.Proof.BodyValue
public import proofs.«01_k».proof.Proof.InputBlocks
public import Idealize.ShloMosaic.Lib.Pipeline.FrameBody

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The running sums point `t` hands on when it starts from `s`. -/
def handOn (c : Dev nD) (t : Fin cfg0.N) (s : Vec F S1x2 .f32) : Vec F S1x2 .f32 :=
  carryBlk (iblk m c 1 t) (iblk m c 4 t) (iblk m c 5 t) s

/-- The running sums point `t` starts from: zeros at an even point, what the point before hands on, started from zeros,
    at an odd one. -/
def startAt (c : Dev nD) (t : Fin cfg0.N) : Vec F S1x2 .f32 :=
  if t.val % 2 = 0 then k0_pay3 else handOn m c ⟨t.val - 1, Nat.lt_of_le_of_lt (Nat.sub_le _ _) t.isLt⟩ k0_pay3

/-- The block point `t` leaves in the result's staging buffer. -/
def leaves (c : Dev nD) (t : Fin cfg0.N) : Vec F S1x4096x512 .f32 :=
  outBlk (BitVec.ofNat 32 (grid0.coords t 1).val) (iblk m c 1 t) (iblk m c 2 t) (iblk m c 4 t) (iblk m c 5 t) (startAt m c t)

/-- At an odd point the sums it starts from are those the point before handed on. -/
theorem startAt_odd (c : Dev nD) (n : ℕ) (hn : n + 1 < cfg0.N) (ho : ¬(n + 1) % 2 = 0) :
    startAt m c ⟨n + 1, hn⟩ = handOn m c ⟨n, Nat.lt_of_succ_lt hn⟩ (startAt m c ⟨n, Nat.lt_of_succ_lt hn⟩) := by
  have he : n % 2 = 0 := by omega
  unfold startAt
  rw [if_neg ho, if_pos he]
  rfl

/-- What the region owns before position `n`: before the first, the scratch at anything; after it, the scratch at what
    the point before handed on. -/
def held (c : Dev nD) : (n : ℕ) → n ≤ cfg0.N → sProp 𝕄
  | 0, _ => Pipeline.ΦA spec0 c
  | n + 1, hn => iprop(owns (c : Thread nD τ) carryM fullShare (handOn m c ⟨n, hn⟩ (startAt m c ⟨n, hn⟩)) ∗ (∃ r, prngReg c r))

/-- Whatever the position, the scratch is held at something. -/
theorem held_some (c : Dev nD) : ∀ (n : ℕ) (h : n ≤ cfg0.N),
    held m c n h ⊢ iprop((∃ d, owns (c : Thread nD τ) carryM fullShare d) ∗ (∃ r, prngReg c r))
  | 0, _ => by
    show Pipeline.ΦA spec0 c ⊢ _
    rw [rest_eq]
  | n + 1, hn => by
    show iprop(owns (c : Thread nD τ) carryM fullShare (handOn m c ⟨n, hn⟩ (startAt m c ⟨n, hn⟩)) ∗ (∃ r, prngReg c r)) ⊢ _
    iintro ⟨HS, Hg⟩
    isplitl [HS]
    · iexists _; iexact HS
    iexact Hg

/-- Before an odd point it is held at the sums that point starts from. -/
theorem held_odd (c : Dev nD) (t : Fin cfg0.N) (ho : ¬t.val % 2 = 0) :
    held m c t.val (Nat.le_of_lt t.isLt) = iprop(owns (c : Thread nD τ) carryM fullShare (startAt m c t) ∗ (∃ r, prngReg c r)) := by
  obtain ⟨n, hn⟩ := t
  cases n with
  | zero => exact absurd rfl ho
  | succ n => rw [startAt_odd m c n hn ho]; rfl

/-! ## The proof data -/

/-- The arrays as the region finds them; after each point every input's buffer at its block and the result's at the block
    the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => leaves m c t
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) : (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = leaves m c t := by dsimp only [dats]

/-- Before each point every input's staging buffer holds its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## One point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t))

/-- The body at any point: at an even point it starts the sums from zeros, at an odd one from what the scratch holds; it
    leaves the point's block and hands the sums on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, held_castSucc]
  rw [show (dats m 0 c).Φ t.succ = iprop(owns (c : Thread nD τ) carryM fullShare (handOn m c t (startAt m c t)) ∗ (∃ r, prngReg c r)) from rfl]
  unfold leaves
  by_cases he : t.val % 2 = 0
  · rw [show startAt m c t = k0_pay3 from if_pos he]
    refine BIBase.Entails.trans (sep_mono_left (held_some m c _ _)) ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ (iblk m c 0 t) (blk_word m c t) (iblk m c 1 t) (iblk m c 2 t) (iblk m c 3 t) (iblk m c 4 t) (iblk m c 5 t) ((opens_iff t).mpr he) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [held_odd m c t he]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body_second c (grid0.coords t) _ _ _ _ _ _ _ _ _ _ _ _ _ _ _ _ (iblk m c 0 t) (blk_word m c t) (iblk m c 1 t) (iblk m c 2 t) (iblk m c 3 t) (iblk m c 4 t) (iblk m c 5 t) (fun h => he ((opens_iff t).mp h)) (startAt m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = held m c cfg0.N le_rfl from rfl, rest_eq]
  exact held_some m c _ _

/-! ## The run -/

set_option backward.isDefEq.respectTransparency.types false in
/-- From any memory with every counter at zero the program ends, its arrays as the points leave them, every counter zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
    (Q' := _) (hQ' := fun _ h => h)

end Cert.KernelIdeal.Hand

end
-- ==== Proof.Result.lean ====
/- The result array of the idealized kernel's run: row `q` of sequence `b` is what grid point `2 b + q / 4096` leaves in its
   block's row `q % 4096`. -/
module

public import proofs.«01_k».proof.Proof.Launch
public import Idealize.ShloMosaic.Lib.Claim

@[expose] public section

noncomputable section

namespace Cert.KernelIdeal.Hand

open Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-- The grid point of half `k` of sequence `b`. -/
def pointOf (b : Fin 8) (k : Fin 2) : Fin cfg0.N := ⟨2 * b.val + k.val, by
  have : cfg0.N = 16 := N_0
  omega⟩

/-- The half a row lies in, and its place in that half. -/
def halfOf (q : Fin 8192) : Fin 2 := ⟨q.val / 4096, by omega⟩
def rowIn (q : Fin 8192) : Fin 4096 := ⟨q.val % 4096, by omega⟩

/-- The array the run leaves. -/
def result (c : Dev nD) : Vec F S8x8192x512 .f32 := fun i =>
  leaves m c (pointOf (i 0) (halfOf (i 1))) (ix3 0 (rowIn (i 1)) (i 2))

/-- An index of a block is its row and lane behind a zero. -/
theorem blk_idx (y : S1x4096x512.Idx) (r : Fin 4096) (l : Fin 512) (hr : r.val = (y 1).val) (hl : l.val = (y 2).val) : (ix3 0 r l : S1x4096x512.Idx) = y := by
  have h0 : (y 0).val < 1 := (y 0).isLt
  funext a
  apply Fin.ext
  match a with
  | ⟨0, _⟩ => show 0 = (y 0).val; omega
  | ⟨1, _⟩ => exact hr
  | ⟨2, _⟩ => exact hl

/-- Where the result's window at point `t` places an index of its block. -/
theorem place_zero (t : Fin cfg0.N) (y : S1x4096x512.Idx) : ((((cfg0.win 6).blk t).view.emb y) 0).val = t.val / 2 := by
  have h0 : (y 0).val = 0 := by have : (y 0).val < 1 := (y 0).isLt; omega
  blk_simp [index_out]
  try omega
theorem place_one (t : Fin cfg0.N) (y : S1x4096x512.Idx) : ((((cfg0.win 6).blk t).view.emb y) 1).val = 4096 * (t.val % 2) + (y 1).val := by
  blk_simp [index_out]
  try omega
theorem place_two (t : Fin cfg0.N) (y : S1x4096x512.Idx) : ((((cfg0.win 6).blk t).view.emb y) 2).val = (y 2).val := by
  blk_simp [index_out]

/-- The array read at an index known by its point and its place in the point's block. -/
theorem result_at (c : Dev nD) (t : Fin cfg0.N) (y : S1x4096x512.Idx) (i : S8x8192x512.Idx) (h0 : (i 0).val = t.val / 2)
    (h1 : (i 1).val = 4096 * (t.val % 2) + (y 1).val) (h2 : (i 2).val = (y 2).val) : result m c i = leaves m c t y := by
  have hy : (y 1).val < 4096 := (y 1).isLt
  have ep : pointOf (i 0) (halfOf (i 1)) = t := by
    apply Fin.ext
    show 2 * (i 0).val + (i 1).val / 4096 = t.val
    rw [h0, h1]; omega
  have ey : (ix3 0 (rowIn (i 1)) (i 2) : S1x4096x512.Idx) = y :=
    blk_idx y _ _ (by show (i 1).val % 4096 = (y 1).val; rw [h1]; omega) h2
  unfold result
  rw [ep, ey]

/-- Every point's block is the result array's there, and the blocks cover the array. -/
theorem final_out (c : Dev nD) : (dats m 0 c).arrAt 6 cfg0.N = result m c :=
  (dats m 0 c).arrAt_eq_of_covers 6 (result m c) (by decide +kernel) fun t _ y =>
    (congrFun (after_6 m c t) y).trans (result_at m c t y _ (place_zero t y) (place_one t y) (place_two t y)).symm

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The result array ends at `result`, and the arguments unchanged. -/
theorem run : θ_run defs (onTc (τ := τ) (main (F := F))) ⟨m, fun _ => 0, ρ⟩ (fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 6).trans (final_out m c), h.2.1 c⟩)
    (θ_run_and (run_main m ρ) (frame m ρ))

end Cert.KernelIdeal.Hand

end
-- ==== Proof.SameProgram.lean ====
/- The kernel as printed and the kernel as idealized are one program: no rewrite was applied. What is proved of the second
   for every reading of the floats therefore holds of the first. -/
module

public import proofs.«01_k».proof.Proof.Gen.Kernel
public import proofs.«01_k».proof.Proof.Result

@[expose] public section

set_option maxRecDepth 16384

noncomputable section

namespace Cert.Kernel.Hand

open Idealize.ShloMosaic Idealize.SL.Sem

variable {F : FTy → Type} [FloatOps F]

set_option maxHeartbeats 4000000 in
/-- The two bodies are the same function. -/
theorem same_body : cc0_cumulative_layer_norm (F := F) = Cert.KernelIdeal.cc0_cumulative_layer_norm (F := F) := (rfl)

set_option maxHeartbeats 4000000 in
/-- So are the tables the launch finds the body in, -/
theorem same_bodies : defs₀ (F := F) = Cert.KernelIdeal.defs₀ (F := F) := by
  unfold Cert.Kernel.defs₀ Cert.KernelIdeal.defs₀
  refine congrArg Defs.onTc (funext fun l => ?_)
  match l with
  | 0 =>
    funext a
    obtain ⟨t, s⟩ := a
    dsimp only
    rw [same_body]
    rfl
  | ⟨_ + 1, h⟩ => exact absurd h (Nat.not_lt.2 (Nat.le_add_left _ _))

/-- the tables with the region's own entries, -/
theorem same_defs : defs (F := F) = Cert.KernelIdeal.defs (F := F) := by
  unfold Cert.Kernel.defs Cert.KernelIdeal.defs
  rw [same_bodies]; rfl

set_option maxHeartbeats 4000000 in
/-- and the two host programs. -/
theorem same_main : main (F := F) = Cert.KernelIdeal.main (F := F) := (rfl)

variable (m : (ℓ : Loc nD τ sig) → Buf (Elt F) ℓ) (ρ : Dev nD → PrngReg)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [same_defs, same_main]
  exact Cert.KernelIdeal.Hand.frame m ρ

end Cert.Kernel.Hand

end
-- ==== Proof.ChunkSums.lean ====
/- The row sums of one tile, over the extended reals: the product with the tile's slab of the mask puts the sums of the
   tile's rows in the tile's column, the sums of their squares in the column 32 further on, and zero elsewhere. -/
module

public import proofs.«01_k».proof.Proof.Block
public import proofs.«01_k».proof.Proof.HostTables

@[expose] public section

noncomputable section

namespace Cert.KernelIdeal.Hand

open Cert.KernelIdeal.Gen
open Idealize.ShloMosaic

/-! The host's integer tests, as the word they give. -/

theorem test_same : ∀ (j : Fin 64) (c : Fin 32),
    IntOp.cmpi .eq (BitVec.ofNat 32 j.val) (BitVec.ofNat 32 c.val) = if j.val = c.val then 1#1 else 0#1 := by decide +kernel
theorem test_next : ∀ (j : Fin 64) (c : Fin 32),
    IntOp.cmpi .eq (BitVec.ofNat 32 j.val) (IntOp.addi 32#32 (BitVec.ofNat 32 c.val)) = if j.val = 32 + c.val then 1#1 else 0#1 := by decide +kernel
theorem test_below : ∀ h : Fin 256, IntOp.cmpi .slt (BitVec.ofNat 32 h.val) 128#32 = if h.val < 128 then 1#1 else 0#1 := by decide +kernel
theorem test_above : ∀ h : Fin 256, IntOp.cmpi .sge (BitVec.ofNat 32 h.val) 128#32 = if h.val < 128 then 0#1 else 1#1 := by decide +kernel
theorem test_order : ∀ r q : Fin 128,
    IntOp.cmpi .sge (IntOp.addi (BitVec.ofNat 32 r.val) 0#32) (BitVec.ofNat 32 q.val) = if q.val ≤ r.val then 1#1 else 0#1 := fun r q => by
  rw [show IntOp.addi (BitVec.ofNat 32 r.val) 0#32 = BitVec.ofNat 32 r.val from BitVec.add_zero _]
  split
  · word_cmp
  · word_cmp

/-- The two words as numbers. -/
theorem bit_one : (FloatOps.uitofp .f32 (1#1) : Ideal .f32) = (1 : EReal) := by
  show (((1#1 : BitVec 1).toNat : ℝ) : EReal) = 1
  simp
theorem bit_zero : (FloatOps.uitofp .f32 (0#1) : Ideal .f32) = (0 : EReal) := by
  show (((0#1 : BitVec 1).toNat : ℝ) : EReal) = 0
  simp

/-- The mask at one of the first 128 lanes: one in column `c` of slab `c`. -/
theorem hostMask_low (c : Fin 32) (h : Fin 256) (hh : h.val < 128) (j : Fin 64) :
    (hostMask : Vec Ideal S32x256x64 .f32) (ix3 c h j) = if j.val = c.val then 1 else 0 := by
  pointwise [hostMask]
  rw [test_same, test_next, test_below, test_above, if_pos hh, if_pos hh]
  split_ifs
  · omega
  · exact bit_one
  · exact bit_zero
  · exact bit_zero

/-- At one of the others: one in column `32 + c`. -/
theorem hostMask_high (c : Fin 32) (h : Fin 256) (hh : ¬h.val < 128) (j : Fin 64) :
    (hostMask : Vec Ideal S32x256x64 .f32) (ix3 c h j) = if j.val = 32 + c.val then 1 else 0 := by
  pointwise [hostMask]
  rw [test_same, test_next, test_below, test_above, if_neg hh, if_neg hh]
  split_ifs
  · omega
  · exact bit_zero
  · exact bit_one
  · exact bit_zero

/-- The triangle: one where the row is at least the column. -/
theorem hostTri_apply (r q : Fin 128) :
    (hostTri : Vec Ideal S128x128 .f32) (ix2 r q) = if q.val ≤ r.val then 1 else 0 := by
  pointwise [hostTri]
  rw [test_order]
  by_cases h : q.val ≤ r.val
  · rw [if_pos h, if_pos h]; rfl
  · rw [if_neg h, if_neg h]; rfl

/-- A sum over 512 lanes, four lanes 128 apart at a time. -/
theorem sum_lanes (f : Fin 512 → EReal) :
    ∑ k : Fin 128, ((f ⟨k.val, by omega⟩ + f ⟨128 + k.val, by omega⟩) + (f ⟨256 + k.val, by omega⟩ + f ⟨384 + k.val, by omega⟩)) = ∑ l, f l := by
  have h1 := Fin.sum_univ_add (a := 256) (b := 256) f
  have h2 := Fin.sum_univ_add (a := 128) (b := 128) (fun i => f (Fin.castAdd 256 i))
  have h3 := Fin.sum_univ_add (a := 128) (b := 128) (fun i => f (Fin.natAdd 256 i))
  rw [Finset.sum_add_distrib, Finset.sum_add_distrib, Finset.sum_add_distrib]
  rw [h1, h2, h3]
  rfl

/-- The product for tile `c`, at row `r`: the row's sum in column `c`, the sum of its squares in column `32 + c`. -/
theorem chunk_apply (x : Vec Ideal S1x128x512 .f32) (c : Fin 32) (r : Fin 128) (j : Fin 64) :
    k0_pay4 x (slab hostMask c) (ix2 r j)
      = (if j.val = c.val then ∑ l : Fin 512, x (ix3 0 r l) else 0)
        + (if j.val = 32 + c.val then ∑ l : Fin 512, x (ix3 0 r l) * x (ix3 0 r l) else 0) := by
  have hl : ∀ k : Fin 128, slab (hostMask : Vec Ideal S32x256x64 .f32) c (ix3 0 ⟨k.val, by omega⟩ j) = if j.val = c.val then 1 else 0 :=
    fun k => hostMask_low c _ k.isLt j
  have hh : ∀ k : Fin 128, slab (hostMask : Vec Ideal S32x256x64 .f32) c (ix3 0 ⟨128 + k.val, by omega⟩ j) = if j.val = 32 + c.val then 1 else 0 :=
    fun k => hostMask_high c _ (by show ¬128 + k.val < 128; omega) j
  pointwise [k0_pay4]
  simp only [hl, hh]
  congr 1
  · split
    · simp only [mul_one]
      exact sum_lanes fun l => x (ix3 0 r l)
    · simp only [mul_zero, Finset.sum_const_zero]
  · split
    · simp only [mul_one]
      exact sum_lanes fun l => x (ix3 0 r l) * x (ix3 0 r l)
    · simp only [mul_zero, Finset.sum_const_zero]

end Cert.KernelIdeal.Hand

end
-- ==== Proof.Scan.lean ====
/- The doubling scan over the 32 tiles' sums, over the extended reals: five steps, each adding the row shifted right by
   1, 2, 4, 8 and 16 places, add up everything up to a place. -/
module

public import proofs.«01_k».proof.Proof.Block

@[expose] public section

noncomputable section

namespace Cert.KernelIdeal.Hand

open Cert.KernelIdeal.Gen
open Idealize.ShloMosaic

/-- A row of 32 as a function of the place, zero past its end. -/
def rowAt (v : FVec Ideal S1x32 .f32) (n : ℕ) : EReal := if h : n < 32 then v (ix2 0 ⟨n, h⟩) else 0

theorem rowAt_val (v : FVec Ideal S1x32 .f32) (c : Fin 32) : rowAt v c.val = v (ix2 0 c) := dif_pos c.isLt

/-- The sum of the `n` entries of `u` that end at place `c`. -/
def tail (u : ℕ → EReal) (n c : ℕ) : EReal := ∑ i ∈ Finset.range n, if i ≤ c then u (c - i) else 0

/-- Two such sums side by side. -/
theorem tail_double (u : ℕ → EReal) (n c : ℕ) : tail u (n + n) c = tail u n c + if n ≤ c then tail u n (c - n) else 0 := by
  unfold tail
  rw [Finset.sum_range_add]
  congr 1
  split
  · refine Finset.sum_congr rfl fun i _ => ?_
    by_cases h : n + i ≤ c
    · rw [if_pos h, if_pos (by omega), Nat.sub_sub]
    · rw [if_neg h, if_neg (by omega)]
  · exact Finset.sum_eq_zero fun i _ => if_neg (by omega)

/-- A row shifted right by `n` places, zeros coming in. -/
theorem shifted_apply (n k : ℕ) (hk : n + k = 32) (z : FVec Ideal ⟨2, ![1, n]⟩ .f32) (hz : ∀ j, z j = 0) (v : FVec Ideal S1x32 .f32)
    (hs : S1x32.Slices ![0, 0] ⟨2, ![1, k]⟩) (hc) (c : Fin 32) :
    concatenate S1x32 1 [⟨⟨2, ![1, n]⟩, z⟩, ⟨⟨2, ![1, k]⟩, extractStridedSlice ⟨2, ![1, k]⟩ ![0, 0] v hs⟩] hc (ix2 0 c)
      = if n ≤ c.val then rowAt v (c.val - n) else 0 := by
  by_cases h : n ≤ c.val
  · rw [if_pos h]
    have hlt : c.val - n < 32 := by omega
    rw [concatenate_pair_apply_right (s₁ := ⟨2, ![1, n]⟩) (s₂ := ⟨2, ![1, k]⟩) (1 : Fin S1x32.rank) _ _ hc (ix2 0 c) rfl rfl (ix2 (0 : Fin 1) (⟨c.val - n, by omega⟩ : Fin k))
      (fun b hb => by fin_cases b; · rfl
                      · exact absurd rfl hb) (Nat.sub_add_cancel h)]
    rw [extractStridedSlice_apply _ v hs _ (ix2 (0 : Fin 1) (⟨c.val - n, hlt⟩ : Fin 32)) (fun a => by fin_cases a <;> exact (Nat.zero_add _).symm)]
    exact (rowAt_val v ⟨c.val - n, hlt⟩).symm
  · rw [if_neg h]
    rw [concatenate_pair_apply_left (s₁ := ⟨2, ![1, n]⟩) (s₂ := ⟨2, ![1, k]⟩) (1 : Fin S1x32.rank) _ _ hc (ix2 0 c) rfl (ix2 (0 : Fin 1) (⟨c.val, by omega⟩ : Fin n))
      (fun b => by fin_cases b <;> rfl)]
    exact hz _

/-- One step: a row that holds the sums of the last `n` entries, added to itself shifted by `n` places, holds the sums of
    the last `2n`. -/
theorem step (u : ℕ → EReal) (n k : ℕ) (hk : n + k = 32) (z : FVec Ideal ⟨2, ![1, n]⟩ .f32) (hz : ∀ j, z j = 0) (v : FVec Ideal S1x32 .f32)
    (hv : ∀ c : Fin 32, v (ix2 0 c) = tail u n c.val) (hs : S1x32.Slices ![0, 0] ⟨2, ![1, k]⟩) (hc) (c : Fin 32) :
    addf v (concatenate S1x32 1 [⟨⟨2, ![1, n]⟩, z⟩, ⟨⟨2, ![1, k]⟩, extractStridedSlice ⟨2, ![1, k]⟩ ![0, 0] v hs⟩] hc) (ix2 0 c)
      = tail u (n + n) c.val := by
  rw [addf_apply, Ideal.addf_def, shifted_apply n k hk z hz, tail_double, hv]
  split
  · next h => rw [rowAt, dif_pos (by omega), hv]
  · rfl

/-- The sum of the last 32 entries up to a place below 32 is the sum of all entries up to it. -/
theorem tail_full (u : ℕ → EReal) (c : Fin 32) : tail u 32 c.val = ∑ i ∈ Finset.range (c.val + 1), u i := by
  unfold tail
  rw [← Finset.sum_filter, ← Finset.sum_range_reflect]
  refine Finset.sum_congr (Finset.ext fun i => ?_) fun i hi => ?_
  · simp only [Finset.mem_filter, Finset.mem_range]; omega
  · simp

/-- The rows of zeros that come in. -/
theorem zeros_row (s : Shape) (j : s.Idx) : (broadcast s (Scalar.ofBits .f32 0x00000000#32 : Ideal .f32) : FVec Ideal s .f32) j = 0 := by
  simp [broadcast, Scalar.ofBits, Ideal.ofBits, Ideal.ieee]

/-- The first scan's result: at place `c` everything up to `c`, and the first carried sum. -/
theorem scan0_apply (s : Vec Ideal S1x2 .f32) (v : FVec Ideal S1x32 .f32) (c : Fin 32) :
    k0_pay65 s v k0_pay64 (ix2 0 c) = (∑ i ∈ Finset.range (c.val + 1), rowAt v i) + s (ix2 0 0) := by
  unfold k0_pay65 k0_pay64
  rw [addf_apply, Ideal.addf_def]
  congr 1
  · rw [← tail_full]
    refine step (rowAt v) 16 16 rfl _ (zeros_row _) _ (fun c => ?_) _ _ c
    refine step (rowAt v) 8 24 rfl _ (zeros_row _) _ (fun c => ?_) _ _ c
    refine step (rowAt v) 4 28 rfl _ (zeros_row _) _ (fun c => ?_) _ _ c
    refine step (rowAt v) 2 30 rfl _ (zeros_row _) _ (fun c => ?_) _ _ c
    refine step (rowAt v) 1 31 rfl _ (zeros_row _) _ (fun c => ?_) _ _ c
    simp [tail, rowAt_val]
  · pointwise []

/-- The second scan's, with the second carried sum. -/
theorem scan1_apply (s : Vec Ideal S1x2 .f32) (v : FVec Ideal S1x32 .f32) (c : Fin 32) :
    k0_pay66 s v (ix2 0 c) = (∑ i ∈ Finset.range (c.val + 1), rowAt v i) + s (ix2 0 1) := by
  unfold k0_pay66
  rw [addf_apply, Ideal.addf_def]
  congr 1
  · rw [← tail_full]
    refine step (rowAt v) 16 16 rfl _ (zeros_row _) _ (fun c => ?_) _ _ c
    refine step (rowAt v) 8 24 rfl _ (zeros_row _) _ (fun c => ?_) _ _ c
    refine step (rowAt v) 4 28 rfl _ (zeros_row _) _ (fun c => ?_) _ _ c
    refine step (rowAt v) 2 30 rfl _ (zeros_row _) _ (fun c => ?_) _ _ c
    refine step (rowAt v) 1 31 rfl _ (zeros_row _) _ (fun c => ?_) _ _ c
    simp [tail, rowAt_val]
  · pointwise []

/-- The tiles' sums shifted right by one. -/
theorem shift_apply (t : FVec Ideal S1x32 .f32) (c : Fin 32) :
    shift t (ix2 0 c) = if 1 ≤ c.val then rowAt t (c.val - 1) else 0 :=
  shifted_apply 1 31 rfl k0_pay64 (zeros_row _) t _ _ c

/-- So the entries of the shifted row up to `c` add up to the tiles before `c`. -/
theorem sum_shift (t : FVec Ideal S1x32 .f32) (c : Fin 32) :
    ∑ i ∈ Finset.range (c.val + 1), rowAt (shift t) i = ∑ i ∈ Finset.range c.val, rowAt t i := by
  have h : ∀ i < 32, rowAt (shift t) i = if 1 ≤ i then rowAt t (i - 1) else 0 := fun i hi =>
    (rowAt_val (shift t) ⟨i, hi⟩).trans (shift_apply t ⟨i, hi⟩)
  rw [Finset.sum_range_succ', h 0 (by decide), if_neg (by decide), add_zero]
  refine Finset.sum_congr rfl fun i hi => ?_
  have hi := Finset.mem_range.mp hi
  rw [h (i + 1) (by omega), if_pos (by omega)]
  rfl

/-- What stands before tile `c`: the tiles before it and the carried sum. -/
theorem base0_apply (C : FVec Ideal S128x64 .f32) (s : Vec Ideal S1x2 .f32) (c : Fin 32) :
    base0 C s (ix2 0 c) = (∑ i ∈ Finset.range c.val, rowAt (tot0 C) i) + s (ix2 0 0) := by
  unfold base0; rw [scan0_apply, sum_shift]
theorem base1_apply (C : FVec Ideal S128x64 .f32) (s : Vec Ideal S1x2 .f32) (c : Fin 32) :
    base1 C s (ix2 0 c) = (∑ i ∈ Finset.range c.val, rowAt (tot1 C) i) + s (ix2 0 1) := by
  unfold base1; rw [scan1_apply, sum_shift]

/-- What is handed on: all 32 tiles and the carried sum. -/
theorem carryOut_zero (C : FVec Ideal S128x64 .f32) (s : Vec Ideal S1x2 .f32) :
    carryOut C s (ix2 0 0) = (∑ i ∈ Finset.range 32, rowAt (tot0 C) i) + s (ix2 0 0) := by
  have h : carryOut C s (ix2 0 0) = base0 C s (ix2 0 31) + tot0 C (ix2 0 31) := by
    unfold carryOut base0
    pointwise [k0_pay69, k0_pay67]
  rw [h, base0_apply, ← rowAt_val (tot0 C) 31, Finset.sum_range_succ _ 31, add_right_comm]
  rfl
theorem carryOut_one (C : FVec Ideal S128x64 .f32) (s : Vec Ideal S1x2 .f32) :
    carryOut C s (ix2 0 1) = (∑ i ∈ Finset.range 32, rowAt (tot1 C) i) + s (ix2 0 1) := by
  have h : carryOut C s (ix2 0 1) = base1 C s (ix2 0 31) + tot1 C (ix2 0 31) := by
    unfold carryOut base1
    pointwise [k0_pay69, k0_pay68]
  rw [h, base1_apply, ← rowAt_val (tot1 C) 31, Finset.sum_range_succ _ 31, add_right_comm]
  rfl

/-- The whole tiles' sums are the last row's. -/
theorem tot0_apply (C : FVec Ideal S128x64 .f32) (c : Fin 32) : tot0 C (ix2 0 c) = C (ix2 127 ⟨c.val, by omega⟩) := by
  pointwise [tot0]
theorem tot1_apply (C : FVec Ideal S128x64 .f32) (c : Fin 32) : tot1 C (ix2 0 c) = C (ix2 127 ⟨32 + c.val, by omega⟩) := by
  pointwise [tot1]

end Cert.KernelIdeal.Hand

end
-- ==== Proof.BlockSums.lean ====
/- The running sums of one block, over the extended reals: what the body adds up for row `r` of tile `c` is the sum of the
   block's rows up to row `128 c + r`, on top of the carried sum; and what it hands on is the sum of the whole block, on top
   of the carried sum. -/
module

public import proofs.«01_k».proof.Proof.ChunkSums
public import proofs.«01_k».proof.Proof.Scan

@[expose] public section

noncomputable section

namespace Cert.KernelIdeal.Hand

open Cert.KernelIdeal.Gen
open Idealize.ShloMosaic

/-- The sum of row `n` of a block, and of its squares; zero past the block's end. -/
def rowSum (x : Vec Ideal S1x4096x512 .f32) (n : ℕ) : EReal := if h : n < 4096 then ∑ l : Fin 512, x (ix3 0 ⟨n, h⟩ l) else 0
def rowSq (x : Vec Ideal S1x4096x512 .f32) (n : ℕ) : EReal :=
  if h : n < 4096 then ∑ l : Fin 512, x (ix3 0 ⟨n, h⟩ l) * x (ix3 0 ⟨n, h⟩ l) else 0

/-- The sums of the tiles are the finite sum of the tiles' products. -/
theorem sums_apply (T : Fin 32 → Vec Ideal S1x128x512 .f32) (W : Fin 32 → Vec Ideal S1x256x64 .f32) (n : ℕ) (i : S128x64.Idx) :
    sums T W n i = ∑ k ∈ Finset.range (n + 1), k0_pay4 (T (Fin.ofNat 32 k)) (W (Fin.ofNat 32 k)) i := by
  induction n with
  | zero => rw [Finset.sum_range_one]; rfl
  | succ n ih => rw [Finset.sum_range_succ, ← ih]; rfl

/-- All 32 of them. -/
theorem sums_all (T : Fin 32 → Vec Ideal S1x128x512 .f32) (W : Fin 32 → Vec Ideal S1x256x64 .f32) (i : S128x64.Idx) :
    sums T W 31 i = ∑ k : Fin 32, k0_pay4 (T k) (W k) i := by
  rw [sums_apply, Finset.sum_range]
  refine Finset.sum_congr rfl fun k _ => ?_
  rw [show Fin.ofNat 32 k.val = k from Fin.ext (Nat.mod_eq_of_lt k.isLt)]

/-- Column `c`: the sums of tile `c`'s rows. -/
theorem sums_low (x : Vec Ideal S1x4096x512 .f32) (q : Fin 128) (c : Fin 32) :
    sums (tile x) (slab hostMask) 31 (ix2 q ⟨c.val, by omega⟩) = rowSum x (128 * c.val + q.val) := by
  rw [sums_all, Finset.sum_eq_single c]
  · rw [chunk_apply, if_pos rfl, if_neg (by show ¬c.val = 32 + c.val; omega), add_zero, rowSum, dif_pos (by omega)]
    rfl
  · intro b _ hb
    rw [chunk_apply, if_neg (fun h => hb (Fin.ext h.symm)), if_neg (by show ¬c.val = 32 + b.val; omega), add_zero]
  · exact fun h => absurd (Finset.mem_univ c) h

/-- Column `32 + c`: the sums of their squares. -/
theorem sums_high (x : Vec Ideal S1x4096x512 .f32) (q : Fin 128) (c : Fin 32) :
    sums (tile x) (slab hostMask) 31 (ix2 q ⟨32 + c.val, by omega⟩) = rowSq x (128 * c.val + q.val) := by
  rw [sums_all, Finset.sum_eq_single c]
  · rw [chunk_apply, if_neg (by show ¬32 + c.val = c.val; omega), if_pos rfl, zero_add, rowSq, dif_pos (by omega)]
    rfl
  · intro b _ hb
    rw [chunk_apply, if_neg (by show ¬32 + c.val = b.val; omega), if_neg (fun h => hb (Fin.ext (by have h : 32 + c.val = 32 + b.val := h; omega))), add_zero]
  · exact fun h => absurd (Finset.mem_univ c) h

/-- A sum over the places up to `r` of a column of 128. -/
theorem sum_upto (f : ℕ → EReal) (r : Fin 128) :
    (∑ q : Fin 128, if q.val ≤ r.val then f q.val else 0) = ∑ q ∈ Finset.range (r.val + 1), f q := by
  rw [← Finset.sum_range (fun q => if q ≤ r.val then f q else 0), ← Finset.sum_filter]
  refine Finset.sum_congr (Finset.ext fun q => ?_) fun _ _ => rfl
  simp only [Finset.mem_filter, Finset.mem_range]
  omega

/-- The product with the triangle adds up a column's rows up to `r`. -/
theorem cum_apply (T : Fin 32 → Vec Ideal S1x128x512 .f32) (W : Fin 32 → Vec Ideal S1x256x64 .f32) (r : Fin 128) (j : Fin 64) (f : ℕ → EReal)
    (hf : ∀ q : Fin 128, sums T W 31 (ix2 q j) = f q.val) :
    cum T W hostTri (ix2 r j) = ∑ q ∈ Finset.range (r.val + 1), f q := by
  rw [← sum_upto]
  pointwise [cum]
  refine Finset.sum_congr rfl fun q _ => ?_
  rw [hostTri_apply, hf]
  split
  · rw [one_mul]
  · rw [zero_mul]

variable (x : Vec Ideal S1x4096x512 .f32) (s : Vec Ideal S1x2 .f32)

theorem cum_low (r : Fin 128) (c : Fin 32) :
    cumOf x hostTri hostMask (ix2 r ⟨c.val, by omega⟩) = ∑ q ∈ Finset.range (r.val + 1), rowSum x (128 * c.val + q) :=
  cum_apply _ _ r _ (fun q => rowSum x (128 * c.val + q)) fun q => sums_low x q c
theorem cum_high (r : Fin 128) (c : Fin 32) :
    cumOf x hostTri hostMask (ix2 r ⟨32 + c.val, by omega⟩) = ∑ q ∈ Finset.range (r.val + 1), rowSq x (128 * c.val + q) :=
  cum_apply _ _ r _ (fun q => rowSq x (128 * c.val + q)) fun q => sums_high x q c

/-- Whole tiles, one after the other, are the rows up to their end. -/
theorem sum_tiles (f : ℕ → EReal) (n : ℕ) :
    ∑ c ∈ Finset.range n, ∑ q ∈ Finset.range 128, f (128 * c + q) = ∑ p ∈ Finset.range (128 * n), f p := by
  induction n with
  | zero => rfl
  | succ n ih => rw [Finset.sum_range_succ, ih, Nat.mul_succ, Finset.sum_range_add]

/-- The tiles before tile `c`, then. -/
theorem sum_tot0 (n : ℕ) (hn : n ≤ 32) :
    ∑ c ∈ Finset.range n, rowAt (tot0 (cumOf x hostTri hostMask)) c = ∑ p ∈ Finset.range (128 * n), rowSum x p := by
  rw [← sum_tiles]
  refine Finset.sum_congr rfl fun c hc => ?_
  have hc : c < 32 := Nat.lt_of_lt_of_le (Finset.mem_range.mp hc) hn
  exact (rowAt_val _ ⟨c, hc⟩).trans ((tot0_apply _ ⟨c, hc⟩).trans (cum_low x 127 ⟨c, hc⟩))
theorem sum_tot1 (n : ℕ) (hn : n ≤ 32) :
    ∑ c ∈ Finset.range n, rowAt (tot1 (cumOf x hostTri hostMask)) c = ∑ p ∈ Finset.range (128 * n), rowSq x p := by
  rw [← sum_tiles]
  refine Finset.sum_congr rfl fun c hc => ?_
  have hc : c < 32 := Nat.lt_of_lt_of_le (Finset.mem_range.mp hc) hn
  exact (rowAt_val _ ⟨c, hc⟩).trans ((tot1_apply _ ⟨c, hc⟩).trans (cum_high x 127 ⟨c, hc⟩))

/-- The statistics' sums at row `r` of tile `c`. -/
theorem stat_low (r : Fin 128) (c : Fin 32) :
    k0_pay70 (cumOf x hostTri hostMask) (base0 (cumOf x hostTri hostMask) s) (base1 (cumOf x hostTri hostMask) s) (ix2 r ⟨c.val, by omega⟩)
      = (∑ p ∈ Finset.range (128 * c.val + (r.val + 1)), rowSum x p) + s (ix2 0 0) := by
  have h : k0_pay70 (cumOf x hostTri hostMask) (base0 (cumOf x hostTri hostMask) s) (base1 (cumOf x hostTri hostMask) s) (ix2 r ⟨c.val, by omega⟩)
      = cumOf x hostTri hostMask (ix2 r ⟨c.val, by omega⟩) + base0 (cumOf x hostTri hostMask) s (ix2 0 c) := by
    pointwise [k0_pay70]
  rw [h, base0_apply, sum_tot0 x _ (by omega), cum_low, Finset.sum_range_add _ (128 * c.val), ← add_assoc, add_comm (∑ q ∈ Finset.range (r.val + 1), _)]
theorem stat_high (r : Fin 128) (c : Fin 32) :
    k0_pay70 (cumOf x hostTri hostMask) (base0 (cumOf x hostTri hostMask) s) (base1 (cumOf x hostTri hostMask) s) (ix2 r ⟨32 + c.val, by omega⟩)
      = (∑ p ∈ Finset.range (128 * c.val + (r.val + 1)), rowSq x p) + s (ix2 0 1) := by
  have h : k0_pay70 (cumOf x hostTri hostMask) (base0 (cumOf x hostTri hostMask) s) (base1 (cumOf x hostTri hostMask) s) (ix2 r ⟨32 + c.val, by omega⟩)
      = cumOf x hostTri hostMask (ix2 r ⟨32 + c.val, by omega⟩) + base1 (cumOf x hostTri hostMask) s (ix2 0 c) := by
    pointwise [k0_pay70]
  rw [h, base1_apply, sum_tot1 x _ (by omega), cum_high, Finset.sum_range_add _ (128 * c.val), ← add_assoc, add_comm (∑ q ∈ Finset.range (r.val + 1), _)]

/-- What is handed on: the whole block's sums, and the carried ones. -/
theorem carryBlk_zero : carryBlk x hostTri hostMask s (ix2 0 0) = (∑ p ∈ Finset.range 4096, rowSum x p) + s (ix2 0 0) := by
  unfold carryBlk; rw [carryOut_zero, sum_tot0 x 32 le_rfl]
theorem carryBlk_one : carryBlk x hostTri hostMask s (ix2 0 1) = (∑ p ∈ Finset.range 4096, rowSq x p) + s (ix2 0 1) := by
  unfold carryBlk; rw [carryOut_one, sum_tot1 x 32 le_rfl]

end Cert.KernelIdeal.Hand

end
-- ==== Proof.BlockFormula.lean ====
/- One stored value of a block as a formula, over the extended reals: the entry less its row's running mean, over the running
   deviation, times the gain, the running mean and deviation being taken over the counted entries. -/
module

public import proofs.«01_k».proof.Proof.BlockSums

@[expose] public section

noncomputable section

namespace Cert.KernelIdeal.Hand

open Cert.KernelIdeal.Gen
open Idealize.ShloMosaic

/-- The number of entries up to and with row `q` of a sequence. -/
def count (q : ℕ) : ℝ := ((q : ℝ) + 1) * 512

theorem count_ne (q : ℕ) : count q ≠ 0 := by unfold count; positivity

/-- The reciprocal the body takes, at row `r` of tile `c` of half `k`. -/
theorem recip_apply (k : Fin 2) (r : Fin 128) (c : Fin 32) :
    k0_pay71 (F := Ideal) (BitVec.ofNat 32 k.val) (ix2 r c) = ((1 / count (4096 * k.val + (128 * c.val + r.val)) : ℝ) : EReal) := by
  pointwise [k0_pay71]
  have hw : IntOp.addi (IntOp.addi (BitVec.ofNat 32 r.val) (IntOp.muli (BitVec.ofNat 32 c.val) 128#32))
      (Scalar.addi (Scalar.muli (BitVec.ofNat 32 k.val) 4096#32) 1#32)
      = BitVec.ofNat 32 (r.val + c.val * 128 + (k.val * 4096 + 1)) := by
    show (BitVec.ofNat 32 r.val + BitVec.ofNat 32 c.val * BitVec.ofNat 32 128) + (BitVec.ofNat 32 k.val * BitVec.ofNat 32 4096 + BitVec.ofNat 32 1) = _
    simp only [BitVec.ofNat_add, BitVec.ofNat_mul]
  have hi : (BitVec.ofNat 32 (r.val + c.val * 128 + (k.val * 4096 + 1))).toInt = ((r.val + c.val * 128 + (k.val * 4096 + 1) : ℕ) : ℤ) := by
    rw [BitVec.toInt_eq_toNat_cond, BitVec.toNat_ofNat, Nat.mod_eq_of_lt (by omega), if_pos (by omega)]
  have hn : (FloatOps.sitofp .f32 (BitVec.ofNat 32 (r.val + c.val * 128 + (k.val * 4096 + 1))) : Ideal .f32)
      = (((4096 * k.val + (128 * c.val + r.val) : ℕ) + 1 : ℝ) : EReal) := by
    show (((BitVec.ofNat 32 (r.val + c.val * 128 + (k.val * 4096 + 1))).toInt : ℝ) : EReal) = _
    rw [hi]
    refine congrArg Real.toEReal ?_
    push_cast
    ring
  have h512 : (Ideal.ofBits .f32 1140850688#32 : EReal) = ((512 : ℝ) : EReal) := by
    simp [Ideal.ofBits, Ideal.ieee, -EReal.coe_mul]
    norm_num
  rw [hw, hn, h512, ← EReal.coe_mul]
  exact (Ideal.div_coe (count_ne _) 1).trans (one_mul _)

/-- An entry less its row's mean, over the row's deviation, times the gain: `S` and `Q` the sums of the entries and of their
    squares up to and with row `q`. -/
def normed (g x S Q : EReal) (q : ℕ) : EReal :=
  ((x - S * ((1 / count q : ℝ) : EReal))
    * Ideal.rsqrt (Q * ((1 / count q : ℝ) : EReal) - S * ((1 / count q : ℝ) : EReal) * (S * ((1 / count q : ℝ) : EReal)) + Ideal.ofBits .f32 0x322BCC77#32)) * g

/-- What is stored at row `r` of tile `c`, from the statistics there. -/
theorem stored_apply (c : Fin 32) (g : Vec Ideal S1x512 .f32) (m v : FVec Ideal S128x32 .f32) (x : Vec Ideal S1x128x512 .f32) (r : Fin 128) (l : Fin 512) :
    stored c g m v x (ix3 0 r l) = ((x (ix3 0 r l) - m (ix2 r c)) * v (ix2 r c)) * g (ix2 0 l) := by
  pointwise [stored]

/-- The mean and one over the deviation there, from the sums. -/
theorem meanOf_apply (k : BitVec 32) (C : FVec Ideal S128x64 .f32) (s : Vec Ideal S1x2 .f32) (r : Fin 128) (c : Fin 32) :
    meanOf k C s (ix2 r c) = k0_pay70 C (base0 C s) (base1 C s) (ix2 r ⟨c.val, by omega⟩) * k0_pay71 (F := Ideal) k (ix2 r c) := by
  unfold meanOf
  pointwise [k0_pay72]
theorem invOf_apply (k : BitVec 32) (C : FVec Ideal S128x64 .f32) (s : Vec Ideal S1x2 .f32) (r : Fin 128) (c : Fin 32) :
    invOf k C s (ix2 r c) = Ideal.rsqrt (k0_pay70 C (base0 C s) (base1 C s) (ix2 r ⟨32 + c.val, by omega⟩) * k0_pay71 (F := Ideal) k (ix2 r c)
      - meanOf k C s (ix2 r c) * meanOf k C s (ix2 r c) + Ideal.ofBits .f32 0x322BCC77#32) := by
  unfold invOf meanOf
  pointwise [k0_pay73]

/-- The block's stored value at row `p`, lane `l`. -/
theorem outBlk_apply (k : Fin 2) (x : Vec Ideal S1x4096x512 .f32) (g : Vec Ideal S1x512 .f32) (s : Vec Ideal S1x2 .f32) (p : Fin 4096) (l : Fin 512) :
    outBlk (BitVec.ofNat 32 k.val) x g hostTri hostMask s (ix3 0 p l)
      = normed (g (ix2 0 l)) (x (ix3 0 p l)) ((∑ n ∈ Finset.range (p.val + 1), rowSum x n) + s (ix2 0 0))
          ((∑ n ∈ Finset.range (p.val + 1), rowSq x n) + s (ix2 0 1)) (4096 * k.val + p.val) := by
  have hq : p.val / 128 < 32 := by omega
  have hr : p.val % 128 < 128 := Nat.mod_lt _ (by decide)
  have hs : outBlk (BitVec.ofNat 32 k.val) x g hostTri hostMask s (ix3 0 p l)
      = stored ⟨p.val / 128, hq⟩ g (meanOf (BitVec.ofNat 32 k.val) (cumOf x hostTri hostMask) s) (invOf (BitVec.ofNat 32 k.val) (cumOf x hostTri hostMask) s)
          (tile x ⟨p.val / 128, hq⟩) (ix3 0 ⟨p.val % 128, hr⟩ l) := rfl
  have hp : p.val = 128 * (⟨p.val / 128, hq⟩ : Fin 32).val + (⟨p.val % 128, hr⟩ : Fin 128).val := (Nat.div_add_mod _ _).symm
  generalize (⟨p.val / 128, hq⟩ : Fin 32) = c at hs hp
  generalize (⟨p.val % 128, hr⟩ : Fin 128) = r at hs hp
  have hx : tile x c (ix3 0 r l) = x (ix3 0 p l) := congrArg (fun n => x (ix3 0 n l)) (Fin.ext hp.symm)
  rw [hs, stored_apply, hx, invOf_apply, meanOf_apply, stat_low, stat_high, recip_apply, ← hp, ← add_assoc, ← hp]
  rfl

end Cert.KernelIdeal.Hand

end
-- ==== Proof.KernelValue.lean ====
/- The idealized kernel's result as a formula of its arguments: every entry less its row's running mean, over the running
   deviation, times the gain, the running sums being taken from the first row of its sequence. -/
module

public import proofs.«01_k».proof.Proof.BlockFormula
public import proofs.«01_k».proof.Proof.Result

@[expose] public section

noncomputable section

namespace Cert.KernelIdeal.Hand

open Cert.KernelIdeal.Gen
open Idealize.ShloMosaic Idealize.ShloMosaic.TcCoe

/-- The sum of row `n` of sequence `b`, and of its squares; zero past the end. -/
def seqSum (x : Vec Ideal S8x8192x512 .f32) (b : Fin 8) (n : ℕ) : EReal := if h : n < 8192 then ∑ l : Fin 512, x (ix3 b ⟨n, h⟩ l) else 0
def seqSq (x : Vec Ideal S8x8192x512 .f32) (b : Fin 8) (n : ℕ) : EReal :=
  if h : n < 8192 then ∑ l : Fin 512, x (ix3 b ⟨n, h⟩ l) * x (ix3 b ⟨n, h⟩ l) else 0

variable (m : (ℓ : Loc nD τ sig) → Buf (Elt Ideal) ℓ) (c : Dev nD)

theorem pointOf_half (b : Fin 8) (k : Fin 2) : (pointOf b k).val / 2 = b.val := by
  show (2 * b.val + k.val) / 2 = b.val; omega
theorem pointOf_mod (b : Fin 8) (k : Fin 2) : (pointOf b k).val % 2 = k.val := by
  show (2 * b.val + k.val) % 2 = k.val; omega

/-- An entry of the input's block at a point. -/
theorem in_apply (b : Fin 8) (k : Fin 2) (r : Fin 4096) (l : Fin 512) (q : Fin 8192) (hq : q.val = 4096 * k.val + r.val) :
    (iblk m c 1 (pointOf b k) : Vec Ideal S1x4096x512 .f32) (ix3 0 r l) = m ((c.tc : Thread nD τ).loc main_arg0) (ix3 b q l) :=
  blk_in m c (pointOf b k) 0 r l b q (pointOf_half b k).symm (by rw [pointOf_mod]; exact hq)

/-- The rows of a block are rows of its sequence. -/
theorem row_sum (b : Fin 8) (k : Fin 2) (n : ℕ) (hn : n < 4096) :
    rowSum (iblk m c 1 (pointOf b k)) n = seqSum (m ((c.tc : Thread nD τ).loc main_arg0)) b (4096 * k.val + n) := by
  rw [rowSum, dif_pos hn, seqSum, dif_pos (by omega)]
  exact Finset.sum_congr rfl fun l _ => in_apply m c b k ⟨n, hn⟩ l ⟨4096 * k.val + n, by omega⟩ rfl
theorem row_sq (b : Fin 8) (k : Fin 2) (n : ℕ) (hn : n < 4096) :
    rowSq (iblk m c 1 (pointOf b k)) n = seqSq (m ((c.tc : Thread nD τ).loc main_arg0)) b (4096 * k.val + n) := by
  rw [rowSq, dif_pos hn, seqSq, dif_pos (by omega)]
  exact Finset.sum_congr rfl fun l _ => by rw [in_apply m c b k ⟨n, hn⟩ l ⟨4096 * k.val + n, by omega⟩ rfl]

theorem rows_sum (b : Fin 8) (k : Fin 2) (n : ℕ) (hn : n ≤ 4096) :
    ∑ i ∈ Finset.range n, rowSum (iblk m c 1 (pointOf b k)) i
      = ∑ i ∈ Finset.range n, seqSum (m ((c.tc : Thread nD τ).loc main_arg0)) b (4096 * k.val + i) :=
  Finset.sum_congr rfl fun i hi => row_sum m c b k i (Nat.lt_of_lt_of_le (Finset.mem_range.mp hi) hn)
theorem rows_sq (b : Fin 8) (k : Fin 2) (n : ℕ) (hn : n ≤ 4096) :
    ∑ i ∈ Finset.range n, rowSq (iblk m c 1 (pointOf b k)) i
      = ∑ i ∈ Finset.range n, seqSq (m ((c.tc : Thread nD τ).loc main_arg0)) b (4096 * k.val + i) :=
  Finset.sum_congr rfl fun i hi => row_sq m c b k i (Nat.lt_of_lt_of_le (Finset.mem_range.mp hi) hn)

/-- The sums start from zeros. -/
theorem zeros_pair (j : S1x2.Idx) : k0_pay3 (F := Ideal) j = 0 := by
  pointwise [k0_pay3]

/-- The first half of a sequence starts from them, the second from what the first hands on. -/
theorem start_first (b : Fin 8) : startAt m c (pointOf b 0) = k0_pay3 (F := Ideal) := if_pos (pointOf_mod b 0)
theorem start_second (b : Fin 8) : startAt m c (pointOf b 1) = carryBlk (iblk m c 1 (pointOf b 0)) hostTri hostMask (k0_pay3 (F := Ideal)) := by
  have h : startAt m c (pointOf b 1) = handOn m c (pointOf b 0) (k0_pay3 (F := Ideal)) := if_neg (by rw [pointOf_mod b 1]; decide)
  rw [h, handOn, blk_tri, blk_mask]

/-- What a point starts from is the sum of the rows before it, -/
theorem start_zero (b : Fin 8) : ∀ k : Fin 2, (startAt m c (pointOf b k) : Vec Ideal S1x2 .f32) (ix2 0 0)
    = ∑ n ∈ Finset.range (4096 * k.val), seqSum (m ((c.tc : Thread nD τ).loc main_arg0)) b n
  | ⟨0, _⟩ => (congrFun (start_first m c b) _).trans (zeros_pair _)
  | ⟨1, _⟩ => (congrFun (start_second m c b) _).trans (by
    rw [carryBlk_zero, zeros_pair, add_zero, rows_sum m c b 0 4096 le_rfl]
    refine Finset.sum_congr rfl fun i _ => congrArg (seqSum _ b) ?_
    exact Nat.zero_add i)

/-- and the sum of their squares. -/
theorem start_one (b : Fin 8) : ∀ k : Fin 2, (startAt m c (pointOf b k) : Vec Ideal S1x2 .f32) (ix2 0 1)
    = ∑ n ∈ Finset.range (4096 * k.val), seqSq (m ((c.tc : Thread nD τ).loc main_arg0)) b n
  | ⟨0, _⟩ => (congrFun (start_first m c b) _).trans (zeros_pair _)
  | ⟨1, _⟩ => (congrFun (start_second m c b) _).trans (by
    rw [carryBlk_one, zeros_pair, add_zero, rows_sq m c b 0 4096 le_rfl]
    refine Finset.sum_congr rfl fun i _ => congrArg (seqSq _ b) ?_
    exact Nat.zero_add i)

/-- The block a point leaves, with its half's number and the constant operands put in. -/
theorem leaves_eq (b : Fin 8) (k : Fin 2) : leaves m c (pointOf b k)
    = outBlk (BitVec.ofNat 32 k.val) (iblk m c 1 (pointOf b k)) (m ((c.tc : Thread nD τ).loc main_arg1)) hostTri hostMask (startAt m c (pointOf b k)) := by
  unfold leaves
  rw [coords_one, pointOf_mod, blk_gain, blk_tri, blk_mask]

/-- The value left at half `k`, row `p` of sequence `b`. -/
theorem leaves_apply (b : Fin 8) (k : Fin 2) (p : Fin 4096) (l : Fin 512) (q : Fin 8192) (hq : q.val = 4096 * k.val + p.val) :
    leaves m c (pointOf b k) (ix3 0 p l)
      = normed (m ((c.tc : Thread nD τ).loc main_arg1) (ix2 0 l)) (m ((c.tc : Thread nD τ).loc main_arg0) (ix3 b q l))
          (∑ n ∈ Finset.range (q.val + 1), seqSum (m ((c.tc : Thread nD τ).loc main_arg0)) b n)
          (∑ n ∈ Finset.range (q.val + 1), seqSq (m ((c.tc : Thread nD τ).loc main_arg0)) b n) q.val := by
  rw [leaves_eq, outBlk_apply, in_apply m c b k p l q hq, start_zero, start_one, rows_sum m c b k _ (by omega), rows_sq m c b k _ (by omega),
    hq, add_assoc (4096 * k.val), Finset.sum_range_add (n := 4096 * k.val), Finset.sum_range_add (n := 4096 * k.val)]
  congr 1 <;> exact add_comm _ _

/-- The result's value at row `q`, lane `l` of sequence `b`. -/
theorem result_apply (b : Fin 8) (q : Fin 8192) (l : Fin 512) : result m c (ix3 b q l)
    = normed (m ((c.tc : Thread nD τ).loc main_arg1) (ix2 0 l)) (m ((c.tc : Thread nD τ).loc main_arg0) (ix3 b q l))
          (∑ n ∈ Finset.range (q.val + 1), seqSum (m ((c.tc : Thread nD τ).loc main_arg0)) b n)
          (∑ n ∈ Finset.range (q.val + 1), seqSq (m ((c.tc : Thread nD τ).loc main_arg0)) b n) q.val :=
  leaves_apply m c b (halfOf q) (rowIn q) l q (Nat.div_add_mod _ _).symm

end Cert.KernelIdeal.Hand

end
-- ==== Proof.RunningSum.lean ====
/- The reference's running sum, over the extended reals: a window as wide as the array, padded on the left by one less, adds
   up everything up to a place. -/
module

public import proofs.«01_k».proof.Proof.Gen.ReferenceIdeal.Read
public import Idealize.ShloMosaic.Lib.ValueIdx
public import Idealize.ShloMosaic.Lib.ShapeFacts

@[expose] public section

noncomputable section

namespace Cert.ReferenceIdeal.Hand

open Idealize.ShloMosaic Idealize.ShloMosaic.ValueIdx

/-- Adding up a list from a start. -/
theorem foldl_plus {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The places of the window that meet the array, from the right: everything up to place `c`. -/
theorem window_sum (y : ℕ → EReal) (p c : ℕ) (hc : c ≤ p) :
    (∑ w ∈ Finset.range (p + 1), if p ≤ c + w then y (c + w - p) else 0) = ∑ q ∈ Finset.range (c + 1), y q := by
  rw [show p + 1 = (p - c) + (c + 1) by omega, Finset.sum_range_add, Finset.sum_eq_zero, zero_add]
  · refine Finset.sum_congr rfl fun q _ => ?_
    rw [if_pos (by omega)]
    congr 1; omega
  · intro w hw
    have := Finset.mem_range.mp hw
    exact if_neg (by omega)

/-- A row of an array as a function of the place, zero past its end. -/
def rowOf {R C : ℕ} (x : (⟨2, ![R, C]⟩ : Shape).Idx → EReal) (j : Fin R) (q : ℕ) : EReal := if h : q < C then x (ix2 j ⟨q, h⟩) else 0

/-- Position `n` of a window of one row is its place `n`. -/
theorem window_place {C : ℕ} (n : Fin (⟨2, ![1, C]⟩ : Shape).numel) (hn : n.val < C) :
    (⟨2, ![1, C]⟩ : Shape).rowMajor.symm n = ix2 (0 : Fin 1) (⟨n.val, hn⟩ : Fin C) := by
  rw [Equiv.symm_apply_eq]
  apply Fin.ext
  rw [Shape.rowMajor_val_two]
  show n.val = 0 * C + n.val
  omega

/-- The running sum of an array along its rows. -/
theorem running_apply {R C p : ℕ} (hC : p + 1 = C) (x : (⟨2, ![R, C]⟩ : Shape).Idx → EReal) (init : EReal) (hinit : init = 0) (h) (hu : 0 < (⟨0, ![]⟩ : Shape).numel)
    (j : Fin R) (c : Fin C) :
    Host.reduceWindow (u := ⟨0, ![]⟩) (t := ⟨2, ![R, C]⟩) (· + ·) ![1, C] ![1, 1] ![0, p] ![0, 0] x (fun _ => init) h hu (ix2 j c)
      = ∑ q ∈ Finset.range (c.val + 1), rowOf x j q := by
  subst hinit hC
  have hN : (⟨2, ![1, p + 1]⟩ : Shape).numel = p + 1 := (Shape.numel_rank2 _).trans (Nat.one_mul _)
  -- what position `w` of the window adds
  let add : ℕ → EReal := fun w => if p ≤ c.val + w then rowOf x j (c.val + w - p) else 0
  have total : ∑ n : Fin (⟨2, ![1, p + 1]⟩ : Shape).numel, add n.val = ∑ q ∈ Finset.range (c.val + 1), rowOf x j q := by
    rw [Fin.sum_univ_eq_sum_range add, hN, window_sum (rowOf x j) p c.val (by omega)]
  rw [← total]
  unfold Host.reduceWindow
  refine (foldl_plus _ _ _).trans ?_
  rw [zero_add, ← Fin.sum_univ_def]
  refine Finset.sum_congr rfl fun n _ => ?_
  have hn : n.val < p + 1 := lt_of_lt_of_eq n.isLt hN
  have hj := j.isLt
  have hc := c.isLt
  simp only [window_place n hn, Fin.forall_fin_two]
  -- the position lies in the array exactly where it is not padding
  by_cases hp : p ≤ c.val + n.val
  · have hq : c.val + n.val - p < p + 1 := by omega
    rw [dif_pos (by
      refine ⟨⟨Nat.zero_le _, ?_⟩, ?_, ?_⟩
      · show j.val * 1 + 0 - 0 < R; omega
      · show p ≤ c.val * 1 + n.val; omega
      · show c.val * 1 + n.val - p < p + 1; omega)]
    rw [show add n.val = x (ix2 j ⟨c.val + n.val - p, hq⟩) from (if_pos hp).trans (dif_pos hq)]
    refine congrArg x (funext fun a => Fin.ext ?_)
    fin_cases a
    · show j.val * 1 + 0 - 0 = j.val; omega
    · show c.val * 1 + n.val - p = c.val + n.val - p; omega
  · rw [dif_neg (by
      rintro ⟨-, h1, -⟩
      change p ≤ c.val * 1 + n.val at h1
      omega)]
    exact (if_neg hp).symm

/-- The same of the host's operation, whose start is a rank-zero array of zero. -/
theorem running_host {R C p : ℕ} (hC : p + 1 = C) (x : FVec Ideal ⟨2, ![R, C]⟩ .f32) (init : FVec Ideal ⟨0, ![]⟩ .f32) (hinit : ∀ i, init i = 0) (h)
    (hu : 0 < (⟨0, ![]⟩ : Shape).numel) (j : Fin R) (c : Fin C) :
    Host.reduceWindowAdd (t := ⟨2, ![R, C]⟩) ![1, C] ![1, 1] ![0, p] ![0, 0] x init h hu (ix2 j c)
      = ∑ q ∈ Finset.range (c.val + 1), rowOf x j q :=
  running_apply hC x _ (hinit _) h hu j c

end Cert.ReferenceIdeal.Hand

end
-- ==== Proof.ReferenceValue.lean ====
/- The reference's result as a formula of its arguments, over the extended reals. -/
module

public import proofs.«01_k».proof.Proof.RunningSum
public import Idealize.ShloMosaic.Lib.Pointwise

@[expose] public section

noncomputable section

namespace Cert.ReferenceIdeal.Hand

open Cert.ReferenceIdeal.Gen Cert.ReferenceIdeal.Read
open Idealize.ShloMosaic

variable (x : Vec Ideal S8x8192x512 .f32) (g β : Vec Ideal S1x512 .f32)

/-- The number zero, as a literal. -/
theorem lit_zero : (Ideal.ofBits .f32 0x00000000#32 : EReal) = 0 := by simp [Ideal.ofBits, Ideal.ieee]

/-- A row's sum, and that of its squares. -/
theorem sum_apply (b : Fin 8) (q : Fin 8192) : val_main_v0 (F := Ideal) x (ix2 b q) = ∑ l : Fin 512, x (ix3 b q l) := by
  rw [val_main_v0_apply]
  rw [val_main_cst_apply, Ideal.ofBits_def, lit_zero, zero_add]
  refine Finset.sum_congr rfl fun l _ => congrArg x (funext fun a => ?_)
  match a with
  | ⟨0, _⟩ => rfl
  | ⟨1, _⟩ => rfl
  | ⟨2, _⟩ => rfl
theorem sq_apply (b : Fin 8) (q : Fin 8192) : val_main_v2 (F := Ideal) x (ix2 b q) = ∑ l : Fin 512, x (ix3 b q l) * x (ix3 b q l) := by
  rw [val_main_v2_apply]
  rw [val_main_cst_0_apply, Ideal.ofBits_def, lit_zero, zero_add]
  refine Finset.sum_congr rfl fun l _ => congrArg (fun i => x i * x i) (funext fun a => ?_)
  match a with
  | ⟨0, _⟩ => rfl
  | ⟨1, _⟩ => rfl
  | ⟨2, _⟩ => rfl

/-- The running sums start from zero. -/
theorem start0 (i : S_.Idx) : val_main_call0_call0_v0 (F := Ideal) i = 0 := by
  rw [val_main_call0_call0_v0_apply, val_main_call0_call0_cst_apply, Ideal.ofBits_def, lit_zero]
theorem start1 (i : S_.Idx) : val_main_call1_call0_v0 (F := Ideal) i = 0 := by
  rw [val_main_call1_call0_v0_apply, val_main_call1_call0_cst_apply, Ideal.ofBits_def, lit_zero]

/-- The running sums. -/
theorem cumsum_apply (b : Fin 8) (q : Fin 8192) :
    val_main_v3 (F := Ideal) x (ix2 b q) = ∑ n ∈ Finset.range (q.val + 1), rowOf (val_main_v0 (F := Ideal) x) b n := by
  unfold val_main_v3
  generalize val_main_v0 (F := Ideal) x = y
  exact running_host (R := 8) (C := 8192) (p := 8191) (by decide) y _ start0 _ _ b q
theorem cumsq_apply (b : Fin 8) (q : Fin 8192) :
    val_main_v4 (F := Ideal) x (ix2 b q) = ∑ n ∈ Finset.range (q.val + 1), rowOf (val_main_v2 (F := Ideal) x) b n := by
  unfold val_main_v4
  generalize val_main_v2 (F := Ideal) x = y
  exact running_host (R := 8) (C := 8192) (p := 8191) (by decide) y _ start1 _ _ b q

/-- The number of entries counted at row `q`. -/
theorem count_apply (q : Fin 8192) : val_main_v9 (F := Ideal) (ix1 q) = ((((q.val : ℝ) + 1) * 512 : ℝ) : EReal) := by
  pointwise [val_main_v9, val_main_v8, val_main_v7, val_main_v6, val_main_v5, val_main_cst_1, val_main_cst_2]
  have hi : (FloatOps.sitofp .f32 (BitVec.ofNat 32 q.val) : Ideal .f32) = ((q.val : ℝ) : EReal) := by
    show (((BitVec.ofNat 32 q.val).toInt : ℝ) : EReal) = _
    rw [show (BitVec.ofNat 32 q.val).toInt = (q.val : ℤ) by
      rw [BitVec.toInt_eq_toNat_cond, BitVec.toNat_ofNat, Nat.mod_eq_of_lt (by omega), if_pos (by omega)]]
    rfl
  have h512 : (Ideal.ofBits .f32 1140850688#32 : EReal) = ((512 : ℝ) : EReal) := by
    simp [Ideal.ofBits, Ideal.ieee, -EReal.coe_mul]
    norm_num
  rw [hi, h512, ← EReal.coe_one, ← EReal.coe_add, ← EReal.coe_mul, add_comm (1 : ℝ)]

/-- The result. -/
theorem value_apply (b : Fin 8) (q : Fin 8192) (l : Fin 512) :
    val_main_v32 (F := Ideal) x g β (ix3 b q l)
      = g (ix2 0 l) * (x (ix3 b q l) - Ideal.div (val_main_v3 (F := Ideal) x (ix2 b q)) (val_main_v9 (F := Ideal) (ix1 q)))
          * Ideal.rsqrt (Ideal.div (val_main_v4 (F := Ideal) x (ix2 b q)) (val_main_v9 (F := Ideal) (ix1 q))
              - Ideal.div (val_main_v3 (F := Ideal) x (ix2 b q)) (val_main_v9 (F := Ideal) (ix1 q)) * Ideal.div (val_main_v3 (F := Ideal) x (ix2 b q)) (val_main_v9 (F := Ideal) (ix1 q))
              + Ideal.ofBits .f32 0x322BCC77#32)
        + β (ix2 0 l) := by
  pointwise [val_main_v32, val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12, val_main_v11, val_main_v10, val_main_cst_3]

end Cert.ReferenceIdeal.Hand

end
-- ==== Proof.Equation.lean ====
/- The two results are equal where the second parameter row is zero: dividing by the count is multiplying by its reciprocal,
   and the factors of the product come in another order. -/
module

public import proofs.«01_k».proof.Proof.KernelValue
public import proofs.«01_k».proof.Proof.ReferenceValue
public import proofs.«01_k».proof.Proof.Gen.Pre_beta_zero

@[expose] public section

noncomputable section

namespace Cert.KernelIdeal.Hand

open Cert.KernelIdeal.Gen
open Idealize.ShloMosaic Idealize.ShloMosaic.TcCoe

/-- The precondition says that the row is zero. -/
theorem row_zero (x : Vec Ideal S8x8192x512 .f32) (g β : Vec Ideal S1x512 .f32)
    (h : Cert.Pre_beta_zero.fn (F := Ideal) x g β = fun _ => 1#1) (l : Fin 512) : β (ix2 0 l) = 0 := by
  have h := congrFun h (ix2 0 l)
  revert h
  pointwise [Cert.Pre_beta_zero.fn]
  intro h
  by_contra hne
  simp [hne] at h

/-- A row of the reference's sums is a row of the sequence's. -/
theorem ref_sum (x : Vec Ideal S8x8192x512 .f32) (b : Fin 8) (n : ℕ) :
    Cert.ReferenceIdeal.Hand.rowOf (R := 8) (C := 8192) (Cert.ReferenceIdeal.Read.val_main_v0 (F := Ideal) x) b n = seqSum x b n := by
  unfold Cert.ReferenceIdeal.Hand.rowOf seqSum
  split
  · exact Cert.ReferenceIdeal.Hand.sum_apply x b _
  · rfl
theorem ref_sq (x : Vec Ideal S8x8192x512 .f32) (b : Fin 8) (n : ℕ) :
    Cert.ReferenceIdeal.Hand.rowOf (R := 8) (C := 8192) (Cert.ReferenceIdeal.Read.val_main_v2 (F := Ideal) x) b n = seqSq x b n := by
  unfold Cert.ReferenceIdeal.Hand.rowOf seqSq
  split
  · exact Cert.ReferenceIdeal.Hand.sq_apply x b _
  · rfl

/-- The reference's value in the kernel's terms. -/
theorem ref_apply (x : Vec Ideal S8x8192x512 .f32) (g β : Vec Ideal S1x512 .f32) (hβ : ∀ l, β (ix2 0 l) = 0) (b : Fin 8) (q : Fin 8192) (l : Fin 512) :
    Cert.ReferenceIdeal.Read.val_main_v32 (F := Ideal) x g β (ix3 b q l)
      = normed (g (ix2 0 l)) (x (ix3 b q l)) (∑ n ∈ Finset.range (q.val + 1), seqSum x b n) (∑ n ∈ Finset.range (q.val + 1), seqSq x b n) q.val := by
  rw [Cert.ReferenceIdeal.Hand.value_apply, Cert.ReferenceIdeal.Hand.cumsum_apply, Cert.ReferenceIdeal.Hand.cumsq_apply, Cert.ReferenceIdeal.Hand.count_apply, hβ, add_zero]
  have hn : ((q.val : ℝ) + 1) * 512 ≠ 0 := count_ne q.val
  simp only [ref_sum, ref_sq, Ideal.div_coe hn]
  rw [mul_assoc, mul_comm (g _)]
  rfl

/-- The results agree. -/
theorem results_agree (m : (ℓ : Loc nD τ sig) → Buf (Elt Ideal) ℓ) (c : Dev nD) (x : Vec Ideal S8x8192x512 .f32) (g β : Vec Ideal S1x512 .f32)
    (hx : x = m ((c.tc : Thread nD τ).loc main_arg0)) (hg : g = m ((c.tc : Thread nD τ).loc main_arg1)) (hβ : ∀ l, β (ix2 0 l) = 0) :
    Cert.ReferenceIdeal.Read.val_main_v32 (F := Ideal) x g β = result m c := by
  funext i
  rw [eq_ix3 i]
  exact (ref_apply x g β hβ _ _ _).trans (by rw [hx, hg]; exact (result_apply m c _ _ _).symm)

end Cert.KernelIdeal.Hand

end
-- ==== Proof.lean ====
/- The certificate: the three programs run from any memory and end with their arguments unchanged and every counter at zero, and
   over the extended reals the kernel's result is the reference's wherever the second parameter row is zero. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_beta_zero
public import proofs.«01_k».proof.Proof.SameProgram
public import proofs.«01_k».proof.Proof.Result
public import proofs.«01_k».proof.Proof.Equation
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference ends with its arguments unchanged; it has no counters. -/
theorem reference_frame : Cert.quiescent_ReferenceIdeal := fun m g _ =>
  (θ_run _ _ _).mono (fun _ h => ⟨fun c => (h c).2, sem_eq_zero_of_no_sems rfl _⟩) (Cert.ReferenceIdeal.Value.run (F := Ideal) m g)

/-- The two results are equal, both programs' arguments unchanged. -/
theorem equal_results : Cert.algebraic_KernelIdeal_ReferenceIdeal_pre_beta_zero := fun m g m' g' hpre hargs =>
  ⟨fun c => Cert.KernelIdeal.Hand.result m c, Cert.KernelIdeal.Hand.run m g,
    (θ_run _ _ _).mono (fun _ h c => ⟨((h c).1.trans (Cert.ReferenceIdeal.Read.val_main_v32_eq _ _ _)).trans
        (Cert.KernelIdeal.Hand.results_agree m c _ _ _ (hargs c).1 (hargs c).2.1 (by
          rw [(hargs c).2.2]; exact Cert.KernelIdeal.Hand.row_zero _ _ _ (hpre c))), (h c).2⟩)
      (Cert.ReferenceIdeal.Value.run (F := Ideal) m' g')⟩

/-- Every claim. -/
theorem claim : Cert.Claim :=
  ⟨Cert.Kernel.Gen.facts, Cert.KernelIdeal.Gen.facts, Cert.ReferenceIdeal.Gen.facts, Cert.Pre_beta_zero.Gen.facts,
    fun m g _ => Cert.Kernel.Hand.frame m g,
    fun m g _ => Cert.KernelIdeal.Hand.frame m g,
    fun m g _ => Cert.KernelIdeal.Hand.frame m g,
    reference_frame,
    fun m g _ => reference_frame m g trivial,
    trivial,
    equal_results⟩

end Cert.Proof

end
